-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_anchored [hPre_anchored : Cert.Pre_anchored.Facts] (m : (ℓ : Loc Cert.KernelIdeal.nD Cert.KernelIdeal.τ Cert.KernelIdeal.sig) → Buf (Elt Ideal) ℓ) : Prop :=
  ∀ c : Dev Cert.KernelIdeal.nD,
    (Cert.Pre_anchored.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_anchored [hPre_anchored : Cert.Pre_anchored.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_anchored.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_anchored [hKernelIdeal : Cert.KernelIdeal.Facts] [hPre_anchored : Cert.Pre_anchored.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_anchored m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_anchored [hReferenceIdeal : Cert.ReferenceIdeal.Facts] [hPre_anchored : Cert.Pre_anchored.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_anchored m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "floor_sq" .f32 0x179ABE15#32 ((5316911940649 / 5316911983139663491615228241121378304 : ℝ) : EReal)

def algebraic_KernelIdeal_ReferenceIdeal_pre_anchored [hKernelIdeal : Cert.KernelIdeal.Facts] [hReferenceIdeal : Cert.ReferenceIdeal.Facts] [hPre_anchored : Cert.Pre_anchored.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_anchored m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v362) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_anchored : Cert.Pre_anchored.Facts),
    quiescent_Kernel (hKernel := hKernel)
    ∧ quiescent_KernelIdeal (hKernelIdeal := hKernelIdeal)
    ∧ quiescent_KernelIdeal_pre_anchored (hKernelIdeal := hKernelIdeal) (hPre_anchored := hPre_anchored)
    ∧ quiescent_ReferenceIdeal (hReferenceIdeal := hReferenceIdeal)
    ∧ quiescent_ReferenceIdeal_pre_anchored (hReferenceIdeal := hReferenceIdeal) (hPre_anchored := hPre_anchored)
    ∧ preserves_Kernel_KernelIdeal
    ∧ algebraic_KernelIdeal_ReferenceIdeal_pre_anchored (hKernelIdeal := hKernelIdeal) (hReferenceIdeal := hReferenceIdeal) (hPre_anchored := hPre_anchored)
-- ==== Pre_anchored.lean ====
abbrev S32768x256 : Shape := ⟨2, ![32768, 256]⟩
abbrev S256x256 : Shape := ⟨2, ![256, 256]⟩
abbrev S256 : Shape := ⟨1, ![256]⟩
abbrev S_ : Shape := ⟨0, ![]⟩

class Facts : Prop where
  reducesTo_S256_S_d0 : S256.ReducesTo [0] S_
  h_S_ : 0 < S_.numel

variable [Facts]

def fn_part1 {F : FTy → Type} [FloatOps F] (main_v12 : IVec S_ 1) (main_v15 : FVec F S_ .f32) (main_cst_6 : FVec F S_ .f32) : IVec S_ 1 :=
  let main_v16 : IVec S_ 1 := cmpf .oge main_v15 main_cst_6
  let main_cst_7 : FVec F S_ .f32 := constant S_ .f32 0x7F800000#32
  let main_v17 : IVec S_ 1 := cmpf .olt main_v15 main_cst_7
  let main_v18 : IVec S_ 1 := andi main_v16 main_v17
  let main_v19 : IVec S_ 1 := andi main_v12 main_v18
  main_v19

def fn {F : FTy → Type} [FloatOps F] (main_arg0 : FVec F S32768x256 .f32) (main_arg1 : FVec F S256x256 .f32) (main_arg2 : FVec F S256 .f32) (main_arg3 : FVec F S256x256 .f32) (main_arg4 : FVec F S256 .f32) (main_arg5 : FVec F S256 .f32) (main_arg6 : FVec F S256 .f32) (main_arg7 : FVec F S256 .f32) : IVec S_ 1 :=
  let main_v0 : FVec F S256 .f32 := mulf main_arg5 main_arg5
  let main_cst : FVec F S_ .f32 := constant S_ .f32 0x00000000#32
  let main_v1 : FVec F S_ .f32 := (fun x v => Host.reduceAdd x v reducesTo_S256_S_d0 h_S_) main_v0 main_cst
  let main_v2 : FVec F S_ .f32 := Host.sqrt main_v1
  let main_cst_0 : FVec F S_ .f32 := constant S_ .f32 0x2B8CBCCC#32
  let main_v3 : IVec S_ 1 := cmpf .oge main_v2 main_cst_0
  let main_cst_1 : FVec F S_ .f32 := constant S_ .f32 0x7F800000#32
  let main_v4 : IVec S_ 1 := cmpf .olt main_v2 main_cst_1
  let main_v5 : IVec S_ 1 := andi main_v3 main_v4
  let main_v6 : FVec F S256 .f32 := mulf main_arg6 main_arg6
  let main_cst_2 : FVec F S_ .f32 := constant S_ .f32 0x00000000#32
  let main_v7 : FVec F S_ .f32 := (fun x v => Host.reduceAdd x v reducesTo_S256_S_d0 h_S_) main_v6 main_cst_2
  let main_v8 : FVec F S_ .f32 := Host.sqrt main_v7
  let main_cst_3 : FVec F S_ .f32 := constant S_ .f32 0x2B8CBCCC#32
  let main_v9 : IVec S_ 1 := cmpf .oge main_v8 main_cst_3
  let main_cst_4 : FVec F S_ .f32 := constant S_ .f32 0x7F800000#32
  let main_v10 : IVec S_ 1 := cmpf .olt main_v8 main_cst_4
  let main_v11 : IVec S_ 1 := andi main_v9 main_v10
  let main_v12 : IVec S_ 1 := andi main_v5 main_v11
  let main_v13 : FVec F S256 .f32 := mulf main_arg7 main_arg7
  let main_cst_5 : FVec F S_ .f32 := constant S_ .f32 0x00000000#32
  let main_v14 : FVec F S_ .f32 := (fun x v => Host.reduceAdd x v reducesTo_S256_S_d0 h_S_) main_v13 main_cst_5
  let main_v15 : FVec F S_ .f32 := Host.sqrt main_v14
  let main_cst_6 : FVec F S_ .f32 := constant S_ .f32 0x2B8CBCCC#32
  fn_part1 (F := F) main_v12 main_v15 main_cst_6
-- ==== Kernel.lean ====
abbrev S32768x256 : Shape := ⟨2, ![32768, 256]⟩
abbrev S256x256 : Shape := ⟨2, ![256, 256]⟩
abbrev S256 : Shape := ⟨1, ![256]⟩
abbrev S1x256 : Shape := ⟨2, ![1, 256]⟩
abbrev S3x256 : Shape := ⟨2, ![3, 256]⟩
abbrev S4096x256 : Shape := ⟨2, ![4096, 256]⟩
abbrev S3 : Shape := ⟨1, ![3]⟩
abbrev S3x1 : Shape := ⟨2, ![3, 1]⟩
abbrev S4x256 : Shape := ⟨2, ![4, 256]⟩
abbrev S1x3 : Shape := ⟨2, ![1, 3]⟩
abbrev S4096 : Shape := ⟨1, ![4096]⟩
abbrev S4096x1 : Shape := ⟨2, ![4096, 1]⟩
abbrev S4096x3 : Shape := ⟨2, ![4096, 3]⟩
abbrev S4096x4 : Shape := ⟨2, ![4096, 4]⟩

abbrev nBuf : Space → Nat
  | .hbm => 17
  | .vmem => 9
  | .smem => 0
  | _ => 0

abbrev bufTy : (tb : Table) → Fin (tcTables nBuf tb) → BufTy
  | .hbm, ⟨0, _⟩ => ⟨S32768x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S3x256, .f32⟩
  | .hbm, ⟨12, _⟩ => ⟨S256x256, .bf16⟩
  | .hbm, ⟨13, _⟩ => ⟨S1x256, .f32⟩
  | .hbm, ⟨14, _⟩ => ⟨S256x256, .bf16⟩
  | .hbm, ⟨15, _⟩ => ⟨S1x256, .f32⟩
  | .hbm, ⟨16, _⟩ => ⟨S32768x256, .f32⟩
  | .local _ .vmem, ⟨0, _⟩ => ⟨S4096x256, .f32⟩
  | .local _ .vmem, ⟨1, _⟩ => ⟨S4096x256, .f32⟩
  | .local _ .vmem, ⟨2, _⟩ => ⟨S256x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S3x256, .f32⟩
  | .local _ .vmem, ⟨7, _⟩ => ⟨S4096x256, .f32⟩
  | .local _ .vmem, ⟨8, _⟩ => ⟨S4096x256, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "floor_sq" => some ((5316911940649 / 5316911983139663491615228241121378304 : ℝ) : EReal)
  | _ => none
-- ==== ReferenceIdeal.lean ====
abbrev S32768x256 : Shape := ⟨2, ![32768, 256]⟩
abbrev S256x256 : Shape := ⟨2, ![256, 256]⟩
abbrev S256 : Shape := ⟨1, ![256]⟩
abbrev S_ : Shape := ⟨0, ![]⟩
abbrev S1 : Shape := ⟨1, ![1]⟩
abbrev S32768 : Shape := ⟨1, ![32768]⟩
abbrev S32768x1 : Shape := ⟨2, ![32768, 1]⟩
abbrev S1x256 : Shape := ⟨2, ![1, 256]⟩

abbrev nBuf : Space → Nat
  | .hbm => 534
  | .vmem => 0
  | .smem => 0
  | _ => 0

abbrev hbmTy0_0 (i : Nat) : BufTy := match i % 128 with
  | 0 => ⟨S32768x256, .f32⟩
  | 1 => ⟨S256x256, .f32⟩
  | 2 => ⟨S256, .f32⟩
  | 3 => ⟨S256x256, .f32⟩
  | 4 => ⟨S256, .f32⟩
  | 5 => ⟨S256, .f32⟩
  | 6 => ⟨S256, .f32⟩
  | 7 => ⟨S256, .f32⟩
  | 8 => ⟨S256, .f32⟩
  | 9 => ⟨S_, .f32⟩
  | 10 => ⟨S_, .f32⟩
  | 11 => ⟨S1, .f32⟩
  | 12 => ⟨S1, .f32⟩
  | 13 => ⟨S_, .f32⟩
  | 14 => ⟨S1, .f32⟩
  | 15 => ⟨S1, .f32⟩
  | 16 => ⟨S256, .f32⟩
  | 17 => ⟨S256, .f32⟩
  | 18 => ⟨S256, .f32⟩
  | 19 => ⟨S_, .f32⟩
  | 20 => ⟨S_, .f32⟩
  | 21 => ⟨S1, .f32⟩
  | 22 => ⟨S1, .f32⟩
  | 23 => ⟨S_, .f32⟩
  | 24 => ⟨S1, .f32⟩
  | 25 => ⟨S1, .f32⟩
  | 26 => ⟨S256, .f32⟩
  | 27 => ⟨S256, .f32⟩
  | 28 => ⟨S256, .f32⟩
  | 29 => ⟨S_, .f32⟩
  | 30 => ⟨S_, .f32⟩
  | 31 => ⟨S1, .f32⟩
  | 32 => ⟨S1, .f32⟩
  | 33 => ⟨S_, .f32⟩
  | 34 => ⟨S1, .f32⟩
  | 35 => ⟨S1, .f32⟩
  | 36 => ⟨S256, .f32⟩
  | 37 => ⟨S256, .f32⟩
  | 38 => ⟨S32768x256, .f32⟩
  | 39 => ⟨S_, .f32⟩
  | 40 => ⟨S32768, .f32⟩
  | 41 => ⟨S32768x1, .f32⟩
  | 42 => ⟨S32768x1, .f32⟩
  | 43 => ⟨S_, .f32⟩
  | 44 => ⟨S32768x1, .f32⟩
  | 45 => ⟨S32768x1, .f32⟩
  | 46 => ⟨S32768x256, .f32⟩
  | 47 => ⟨S32768x256, .f32⟩
  | 48 => ⟨S1x256, .f32⟩
  | 49 => ⟨S32768x256, .f32⟩
  | 50 => ⟨S32768x256, .f32⟩
  | 51 => ⟨S_, .f32⟩
  | 52 => ⟨S32768, .f32⟩
  | 53 => ⟨S1x256, .f32⟩
  | 54 => ⟨S32768x256, .f32⟩
  | 55 => ⟨S32768x256, .f32⟩
  | 56 => ⟨S_, .f32⟩
  | 57 => ⟨S32768, .f32⟩
  | 58 => ⟨S1x256, .f32⟩
  | 59 => ⟨S32768x256, .f32⟩
  | 60 => ⟨S32768x256, .f32⟩
  | 61 => ⟨S_, .f32⟩
  | 62 => ⟨S32768, .f32⟩
  | 63 => ⟨S_, .f32⟩
  | 64 => ⟨S32768, .f32⟩
  | 65 => ⟨S32768, .f32⟩
  | 66 => ⟨S_, .f32⟩
  | 67 => ⟨S32768, .f32⟩
  | 68 => ⟨S32768, .f32⟩
  | 69 => ⟨S_, .f32⟩
  | 70 => ⟨S32768, .f32⟩
  | 71 => ⟨S32768, .f32⟩
  | 72 => ⟨S256x256, .f32⟩
  | 73 => ⟨S32768x256, .f32⟩
  | 74 => ⟨S1x256, .f32⟩
  | 75 => ⟨S32768x256, .f32⟩
  | 76 => ⟨S32768x256, .f32⟩
  | 77 => ⟨S32768x256, .f32⟩
  | 78 => ⟨S256x256, .f32⟩
  | 79 => ⟨S32768x256, .f32⟩
  | 80 => ⟨S1x256, .f32⟩
  | 81 => ⟨S32768x256, .f32⟩
  | 82 => ⟨S32768x256, .f32⟩
  | 83 => ⟨S1x256, .f32⟩
  | 84 => ⟨S32768x256, .f32⟩
  | 85 => ⟨S32768x256, .f32⟩
  | 86 => ⟨S32768x256, .f32⟩
  | 87 => ⟨S_, .f32⟩
  | 88 => ⟨S32768, .f32⟩
  | 89 => ⟨S32768x1, .f32⟩
  | 90 => ⟨S32768x1, .f32⟩
  | 91 => ⟨S_, .f32⟩
  | 92 => ⟨S32768x1, .f32⟩
  | 93 => ⟨S32768x1, .f32⟩
  | 94 => ⟨S32768x256, .f32⟩
  | 95 => ⟨S32768x256, .f32⟩
  | 96 => ⟨S1x256, .f32⟩
  | 97 => ⟨S32768x256, .f32⟩
  | 98 => ⟨S32768x256, .f32⟩
  | 99 => ⟨S32768x256, .f32⟩
  | 100 => ⟨S_, .f32⟩
  | 101 => ⟨S32768, .f32⟩
  | 102 => ⟨S32768x1, .f32⟩
  | 103 => ⟨S32768x1, .f32⟩
  | 104 => ⟨S_, .f32⟩
  | 105 => ⟨S32768x1, .f32⟩
  | 106 => ⟨S32768x1, .f32⟩
  | 107 => ⟨S32768x256, .f32⟩
  | 108 => ⟨S32768x256, .f32⟩
  | 109 => ⟨S1x256, .f32⟩
  | 110 => ⟨S32768x256, .f32⟩
  | 111 => ⟨S32768x256, .f32⟩
  | 112 => ⟨S32768x256, .f32⟩
  | 113 => ⟨S_, .f32⟩
  | 114 => ⟨S32768, .f32⟩
  | 115 => ⟨S32768x1, .f32⟩
  | 116 => ⟨S32768x1, .f32⟩
  | 117 => ⟨S_, .f32⟩
  | 118 => ⟨S32768x1, .f32⟩
  | 119 => ⟨S32768x1, .f32⟩
  | 120 => ⟨S32768x256, .f32⟩
  | 121 => ⟨S32768x256, .f32⟩
  | 122 => ⟨S32768x256, .f32⟩
  | 123 => ⟨S32768x1, .f32⟩
  | 124 => ⟨S_, .f32⟩
  | 125 => ⟨S32768x1, .f32⟩
  | 126 => ⟨S32768x1, .f32⟩
  | 127 => ⟨S32768x256, .f32⟩
  | _ => ⟨S32768x256, .f32⟩

abbrev hbmTy0_1 (i : Nat) : BufTy := match i % 128 with
  | 0 => ⟨S32768x256, .f32⟩
  | 1 => ⟨S32768x256, .f32⟩
  | 2 => ⟨S32768x1, .f32⟩
  | 3 => ⟨S_, .f32⟩
  | 4 => ⟨S32768x1, .f32⟩
  | 5 => ⟨S32768x1, .f32⟩
  | 6 => ⟨S32768x256, .f32⟩
  | 7 => ⟨S32768x256, .f32⟩
  | 8 => ⟨S32768x256, .f32⟩
  | 9 => ⟨S32768x1, .f32⟩
  | 10 => ⟨S_, .f32⟩
  | 11 => ⟨S32768x1, .f32⟩
  | 12 => ⟨S32768x1, .f32⟩
  | 13 => ⟨S32768x256, .f32⟩
  | 14 => ⟨S32768x256, .f32⟩
  | 15 => ⟨S32768x256, .f32⟩
  | 16 => ⟨S32768x256, .f32⟩
  | 17 => ⟨S_, .f32⟩
  | 18 => ⟨S32768, .f32⟩
  | 19 => ⟨S32768x1, .f32⟩
  | 20 => ⟨S32768x1, .f32⟩
  | 21 => ⟨S_, .f32⟩
  | 22 => ⟨S32768x1, .f32⟩
  | 23 => ⟨S32768x1, .i1⟩
  | 24 => ⟨S_, .f32⟩
  | 25 => ⟨S32768x1, .f32⟩
  | 26 => ⟨S32768x1, .f32⟩
  | 27 => ⟨S_, .f32⟩
  | 28 => ⟨S32768x1, .f32⟩
  | 29 => ⟨S32768x1, .f32⟩
  | 30 => ⟨S32768x256, .f32⟩
  | 31 => ⟨S32768x256, .f32⟩
  | 32 => ⟨S32768x256, .i1⟩
  | 33 => ⟨S32768x256, .f32⟩
  | 34 => ⟨S32768x256, .f32⟩
  | 35 => ⟨S_, .f32⟩
  | 36 => ⟨S32768, .f32⟩
  | 37 => ⟨S32768x1, .f32⟩
  | 38 => ⟨S32768x1, .f32⟩
  | 39 => ⟨S_, .f32⟩
  | 40 => ⟨S32768x1, .f32⟩
  | 41 => ⟨S32768x1, .f32⟩
  | 42 => ⟨S32768x256, .f32⟩
  | 43 => ⟨S32768x256, .f32⟩
  | 44 => ⟨S1x256, .f32⟩
  | 45 => ⟨S32768x256, .f32⟩
  | 46 => ⟨S32768x256, .f32⟩
  | 47 => ⟨S_, .f32⟩
  | 48 => ⟨S32768, .f32⟩
  | 49 => ⟨S1x256, .f32⟩
  | 50 => ⟨S32768x256, .f32⟩
  | 51 => ⟨S32768x256, .f32⟩
  | 52 => ⟨S_, .f32⟩
  | 53 => ⟨S32768, .f32⟩
  | 54 => ⟨S1x256, .f32⟩
  | 55 => ⟨S32768x256, .f32⟩
  | 56 => ⟨S32768x256, .f32⟩
  | 57 => ⟨S_, .f32⟩
  | 58 => ⟨S32768, .f32⟩
  | 59 => ⟨S_, .f32⟩
  | 60 => ⟨S32768, .f32⟩
  | 61 => ⟨S32768, .f32⟩
  | 62 => ⟨S_, .f32⟩
  | 63 => ⟨S32768, .f32⟩
  | 64 => ⟨S32768, .f32⟩
  | 65 => ⟨S_, .f32⟩
  | 66 => ⟨S32768, .f32⟩
  | 67 => ⟨S32768, .f32⟩
  | 68 => ⟨S256x256, .f32⟩
  | 69 => ⟨S32768x256, .f32⟩
  | 70 => ⟨S1x256, .f32⟩
  | 71 => ⟨S32768x256, .f32⟩
  | 72 => ⟨S32768x256, .f32⟩
  | 73 => ⟨S32768x256, .f32⟩
  | 74 => ⟨S256x256, .f32⟩
  | 75 => ⟨S32768x256, .f32⟩
  | 76 => ⟨S1x256, .f32⟩
  | 77 => ⟨S32768x256, .f32⟩
  | 78 => ⟨S32768x256, .f32⟩
  | 79 => ⟨S1x256, .f32⟩
  | 80 => ⟨S32768x256, .f32⟩
  | 81 => ⟨S32768x256, .f32⟩
  | 82 => ⟨S32768x256, .f32⟩
  | 83 => ⟨S_, .f32⟩
  | 84 => ⟨S32768, .f32⟩
  | 85 => ⟨S32768x1, .f32⟩
  | 86 => ⟨S32768x1, .f32⟩
  | 87 => ⟨S_, .f32⟩
  | 88 => ⟨S32768x1, .f32⟩
  | 89 => ⟨S32768x1, .f32⟩
  | 90 => ⟨S32768x256, .f32⟩
  | 91 => ⟨S32768x256, .f32⟩
  | 92 => ⟨S1x256, .f32⟩
  | 93 => ⟨S32768x256, .f32⟩
  | 94 => ⟨S32768x256, .f32⟩
  | 95 => ⟨S32768x256, .f32⟩
  | 96 => ⟨S_, .f32⟩
  | 97 => ⟨S32768, .f32⟩
  | 98 => ⟨S32768x1, .f32⟩
  | 99 => ⟨S32768x1, .f32⟩
  | 100 => ⟨S_, .f32⟩
  | 101 => ⟨S32768x1, .f32⟩
  | 102 => ⟨S32768x1, .f32⟩
  | 103 => ⟨S32768x256, .f32⟩
  | 104 => ⟨S32768x256, .f32⟩
  | 105 => ⟨S1x256, .f32⟩
  | 106 => ⟨S32768x256, .f32⟩
  | 107 => ⟨S32768x256, .f32⟩
  | 108 => ⟨S32768x256, .f32⟩
  | 109 => ⟨S_, .f32⟩
  | 110 => ⟨S32768, .f32⟩
  | 111 => ⟨S32768x1, .f32⟩
  | 112 => ⟨S32768x1, .f32⟩
  | 113 => ⟨S_, .f32⟩
  | 114 => ⟨S32768x1, .f32⟩
  | 115 => ⟨S32768x1, .f32⟩
  | 116 => ⟨S32768x256, .f32⟩
  | 117 => ⟨S32768x256, .f32⟩
  | 118 => ⟨S32768x256, .f32⟩
  | 119 => ⟨S32768x1, .f32⟩
  | 120 => ⟨S_, .f32⟩
  | 121 => ⟨S32768x1, .f32⟩
  | 122 => ⟨S32768x1, .f32⟩
  | 123 => ⟨S32768x256, .f32⟩
  | 124 => ⟨S32768x256, .f32⟩
  | 125 => ⟨S32768x256, .f32⟩
  | 126 => ⟨S32768x1, .f32⟩
  | 127 => ⟨S_, .f32⟩
  | _ => ⟨S32768x256, .f32⟩

abbrev hbmTy0_2 (i : Nat) : BufTy := match i % 128 with
  | 0 => ⟨S32768x1, .f32⟩
  | 1 => ⟨S32768x1, .f32⟩
  | 2 => ⟨S32768x256, .f32⟩
  | 3 => ⟨S32768x256, .f32⟩
  | 4 => ⟨S32768x256, .f32⟩
  | 5 => ⟨S32768x1, .f32⟩
  | 6 => ⟨S_, .f32⟩
  | 7 => ⟨S32768x1, .f32⟩
  | 8 => ⟨S32768x1, .f32⟩
  | 9 => ⟨S32768x256, .f32⟩
  | 10 => ⟨S32768x256, .f32⟩
  | 11 => ⟨S32768x256, .f32⟩
  | 12 => ⟨S32768x256, .f32⟩
  | 13 => ⟨S_, .f32⟩
  | 14 => ⟨S32768, .f32⟩
  | 15 => ⟨S32768x1, .f32⟩
  | 16 => ⟨S32768x1, .f32⟩
  | 17 => ⟨S_, .f32⟩
  | 18 => ⟨S32768x1, .f32⟩
  | 19 => ⟨S32768x1, .i1⟩
  | 20 => ⟨S_, .f32⟩
  | 21 => ⟨S32768x1, .f32⟩
  | 22 => ⟨S32768x1, .f32⟩
  | 23 => ⟨S_, .f32⟩
  | 24 => ⟨S32768x1, .f32⟩
  | 25 => ⟨S32768x1, .f32⟩
  | 26 => ⟨S32768x256, .f32⟩
  | 27 => ⟨S32768x256, .f32⟩
  | 28 => ⟨S32768x256, .i1⟩
  | 29 => ⟨S32768x256, .f32⟩
  | 30 => ⟨S32768x256, .f32⟩
  | 31 => ⟨S_, .f32⟩
  | 32 => ⟨S32768, .f32⟩
  | 33 => ⟨S32768x1, .f32⟩
  | 34 => ⟨S32768x1, .f32⟩
  | 35 => ⟨S_, .f32⟩
  | 36 => ⟨S32768x1, .f32⟩
  | 37 => ⟨S32768x1, .f32⟩
  | 38 => ⟨S32768x256, .f32⟩
  | 39 => ⟨S32768x256, .f32⟩
  | 40 => ⟨S1x256, .f32⟩
  | 41 => ⟨S32768x256, .f32⟩
  | 42 => ⟨S32768x256, .f32⟩
  | 43 => ⟨S_, .f32⟩
  | 44 => ⟨S32768, .f32⟩
  | 45 => ⟨S1x256, .f32⟩
  | 46 => ⟨S32768x256, .f32⟩
  | 47 => ⟨S32768x256, .f32⟩
  | 48 => ⟨S_, .f32⟩
  | 49 => ⟨S32768, .f32⟩
  | 50 => ⟨S1x256, .f32⟩
  | 51 => ⟨S32768x256, .f32⟩
  | 52 => ⟨S32768x256, .f32⟩
  | 53 => ⟨S_, .f32⟩
  | 54 => ⟨S32768, .f32⟩
  | 55 => ⟨S_, .f32⟩
  | 56 => ⟨S32768, .f32⟩
  | 57 => ⟨S32768, .f32⟩
  | 58 => ⟨S_, .f32⟩
  | 59 => ⟨S32768, .f32⟩
  | 60 => ⟨S32768, .f32⟩
  | 61 => ⟨S_, .f32⟩
  | 62 => ⟨S32768, .f32⟩
  | 63 => ⟨S32768, .f32⟩
  | 64 => ⟨S256x256, .f32⟩
  | 65 => ⟨S32768x256, .f32⟩
  | 66 => ⟨S1x256, .f32⟩
  | 67 => ⟨S32768x256, .f32⟩
  | 68 => ⟨S32768x256, .f32⟩
  | 69 => ⟨S32768x256, .f32⟩
  | 70 => ⟨S256x256, .f32⟩
  | 71 => ⟨S32768x256, .f32⟩
  | 72 => ⟨S1x256, .f32⟩
  | 73 => ⟨S32768x256, .f32⟩
  | 74 => ⟨S32768x256, .f32⟩
  | 75 => ⟨S1x256, .f32⟩
  | 76 => ⟨S32768x256, .f32⟩
  | 77 => ⟨S32768x256, .f32⟩
  | 78 => ⟨S32768x256, .f32⟩
  | 79 => ⟨S_, .f32⟩
  | 80 => ⟨S32768, .f32⟩
  | 81 => ⟨S32768x1, .f32⟩
  | 82 => ⟨S32768x1, .f32⟩
  | 83 => ⟨S_, .f32⟩
  | 84 => ⟨S32768x1, .f32⟩
  | 85 => ⟨S32768x1, .f32⟩
  | 86 => ⟨S32768x256, .f32⟩
  | 87 => ⟨S32768x256, .f32⟩
  | 88 => ⟨S1x256, .f32⟩
  | 89 => ⟨S32768x256, .f32⟩
  | 90 => ⟨S32768x256, .f32⟩
  | 91 => ⟨S32768x256, .f32⟩
  | 92 => ⟨S_, .f32⟩
  | 93 => ⟨S32768, .f32⟩
  | 94 => ⟨S32768x1, .f32⟩
  | 95 => ⟨S32768x1, .f32⟩
  | 96 => ⟨S_, .f32⟩
  | 97 => ⟨S32768x1, .f32⟩
  | 98 => ⟨S32768x1, .f32⟩
  | 99 => ⟨S32768x256, .f32⟩
  | 100 => ⟨S32768x256, .f32⟩
  | 101 => ⟨S1x256, .f32⟩
  | 102 => ⟨S32768x256, .f32⟩
  | 103 => ⟨S32768x256, .f32⟩
  | 104 => ⟨S32768x256, .f32⟩
  | 105 => ⟨S_, .f32⟩
  | 106 => ⟨S32768, .f32⟩
  | 107 => ⟨S32768x1, .f32⟩
  | 108 => ⟨S32768x1, .f32⟩
  | 109 => ⟨S_, .f32⟩
  | 110 => ⟨S32768x1, .f32⟩
  | 111 => ⟨S32768x1, .f32⟩
  | 112 => ⟨S32768x256, .f32⟩
  | 113 => ⟨S32768x256, .f32⟩
  | 114 => ⟨S32768x256, .f32⟩
  | 115 => ⟨S32768x1, .f32⟩
  | 116 => ⟨S_, .f32⟩
  | 117 => ⟨S32768x1, .f32⟩
  | 118 => ⟨S32768x1, .f32⟩
  | 119 => ⟨S32768x256, .f32⟩
  | 120 => ⟨S32768x256, .f32⟩
  | 121 => ⟨S32768x256, .f32⟩
  | 122 => ⟨S32768x1, .f32⟩
  | 123 => ⟨S_, .f32⟩
  | 124 => ⟨S32768x1, .f32⟩
  | 125 => ⟨S32768x1, .f32⟩
  | 126 => ⟨S32768x256, .f32⟩
  | 127 => ⟨S32768x256, .f32⟩
  | _ => ⟨S32768x256, .f32⟩

abbrev hbmTy0_3 (i : Nat) : BufTy := match i % 128 with
  | 0 => ⟨S32768x256, .f32⟩
  | 1 => ⟨S32768x1, .f32⟩
  | 2 => ⟨S_, .f32⟩
  | 3 => ⟨S32768x1, .f32⟩
  | 4 => ⟨S32768x1, .f32⟩
  | 5 => ⟨S32768x256, .f32⟩
  | 6 => ⟨S32768x256, .f32⟩
  | 7 => ⟨S32768x256, .f32⟩
  | 8 => ⟨S32768x256, .f32⟩
  | 9 => ⟨S_, .f32⟩
  | 10 => ⟨S32768, .f32⟩
  | 11 => ⟨S32768x1, .f32⟩
  | 12 => ⟨S32768x1, .f32⟩
  | 13 => ⟨S_, .f32⟩
  | 14 => ⟨S32768x1, .f32⟩
  | 15 => ⟨S32768x1, .i1⟩
  | 16 => ⟨S_, .f32⟩
  | 17 => ⟨S32768x1, .f32⟩
  | 18 => ⟨S32768x1, .f32⟩
  | 19 => ⟨S_, .f32⟩
  | 20 => ⟨S32768x1, .f32⟩
  | 21 => ⟨S32768x1, .f32⟩
  | 22 => ⟨S32768x256, .f32⟩
  | 23 => ⟨S32768x256, .f32⟩
  | 24 => ⟨S32768x256, .i1⟩
  | 25 => ⟨S32768x256, .f32⟩
  | 26 => ⟨S32768x256, .f32⟩
  | 27 => ⟨S_, .f32⟩
  | 28 => ⟨S32768, .f32⟩
  | 29 => ⟨S32768x1, .f32⟩
  | 30 => ⟨S32768x1, .f32⟩
  | 31 => ⟨S_, .f32⟩
  | 32 => ⟨S32768x1, .f32⟩
  | 33 => ⟨S32768x1, .f32⟩
  | 34 => ⟨S32768x256, .f32⟩
  | 35 => ⟨S32768x256, .f32⟩
  | 36 => ⟨S1x256, .f32⟩
  | 37 => ⟨S32768x256, .f32⟩
  | 38 => ⟨S32768x256, .f32⟩
  | 39 => ⟨S_, .f32⟩
  | 40 => ⟨S32768, .f32⟩
  | 41 => ⟨S1x256, .f32⟩
  | 42 => ⟨S32768x256, .f32⟩
  | 43 => ⟨S32768x256, .f32⟩
  | 44 => ⟨S_, .f32⟩
  | 45 => ⟨S32768, .f32⟩
  | 46 => ⟨S1x256, .f32⟩
  | 47 => ⟨S32768x256, .f32⟩
  | 48 => ⟨S32768x256, .f32⟩
  | 49 => ⟨S_, .f32⟩
  | 50 => ⟨S32768, .f32⟩
  | 51 => ⟨S_, .f32⟩
  | 52 => ⟨S32768, .f32⟩
  | 53 => ⟨S32768, .f32⟩
  | 54 => ⟨S_, .f32⟩
  | 55 => ⟨S32768, .f32⟩
  | 56 => ⟨S32768, .f32⟩
  | 57 => ⟨S_, .f32⟩
  | 58 => ⟨S32768, .f32⟩
  | 59 => ⟨S32768, .f32⟩
  | 60 => ⟨S256x256, .f32⟩
  | 61 => ⟨S32768x256, .f32⟩
  | 62 => ⟨S1x256, .f32⟩
  | 63 => ⟨S32768x256, .f32⟩
  | 64 => ⟨S32768x256, .f32⟩
  | 65 => ⟨S32768x256, .f32⟩
  | 66 => ⟨S256x256, .f32⟩
  | 67 => ⟨S32768x256, .f32⟩
  | 68 => ⟨S1x256, .f32⟩
  | 69 => ⟨S32768x256, .f32⟩
  | 70 => ⟨S32768x256, .f32⟩
  | 71 => ⟨S1x256, .f32⟩
  | 72 => ⟨S32768x256, .f32⟩
  | 73 => ⟨S32768x256, .f32⟩
  | 74 => ⟨S32768x256, .f32⟩
  | 75 => ⟨S_, .f32⟩
  | 76 => ⟨S32768, .f32⟩
  | 77 => ⟨S32768x1, .f32⟩
  | 78 => ⟨S32768x1, .f32⟩
  | 79 => ⟨S_, .f32⟩
  | 80 => ⟨S32768x1, .f32⟩
  | 81 => ⟨S32768x1, .f32⟩
  | 82 => ⟨S32768x256, .f32⟩
  | 83 => ⟨S32768x256, .f32⟩
  | 84 => ⟨S1x256, .f32⟩
  | 85 => ⟨S32768x256, .f32⟩
  | 86 => ⟨S32768x256, .f32⟩
  | 87 => ⟨S32768x256, .f32⟩
  | 88 => ⟨S_, .f32⟩
  | 89 => ⟨S32768, .f32⟩
  | 90 => ⟨S32768x1, .f32⟩
  | 91 => ⟨S32768x1, .f32⟩
  | 92 => ⟨S_, .f32⟩
  | 93 => ⟨S32768x1, .f32⟩
  | 94 => ⟨S32768x1, .f32⟩
  | 95 => ⟨S32768x256, .f32⟩
  | 96 => ⟨S32768x256, .f32⟩
  | 97 => ⟨S1x256, .f32⟩
  | 98 => ⟨S32768x256, .f32⟩
  | 99 => ⟨S32768x256, .f32⟩
  | 100 => ⟨S32768x256, .f32⟩
  | 101 => ⟨S_, .f32⟩
  | 102 => ⟨S32768, .f32⟩
  | 103 => ⟨S32768x1, .f32⟩
  | 104 => ⟨S32768x1, .f32⟩
  | 105 => ⟨S_, .f32⟩
  | 106 => ⟨S32768x1, .f32⟩
  | 107 => ⟨S32768x1, .f32⟩
  | 108 => ⟨S32768x256, .f32⟩
  | 109 => ⟨S32768x256, .f32⟩
  | 110 => ⟨S32768x256, .f32⟩
  | 111 => ⟨S32768x1, .f32⟩
  | 112 => ⟨S_, .f32⟩
  | 113 => ⟨S32768x1, .f32⟩
  | 114 => ⟨S32768x1, .f32⟩
  | 115 => ⟨S32768x256, .f32⟩
  | 116 => ⟨S32768x256, .f32⟩
  | 117 => ⟨S32768x256, .f32⟩
  | 118 => ⟨S32768x1, .f32⟩
  | 119 => ⟨S_, .f32⟩
  | 120 => ⟨S32768x1, .f32⟩
  | 121 => ⟨S32768x1, .f32⟩
  | 122 => ⟨S32768x256, .f32⟩
  | 123 => ⟨S32768x256, .f32⟩
  | 124 => ⟨S32768x256, .f32⟩
  | 125 => ⟨S32768x1, .f32⟩
  | 126 => ⟨S_, .f32⟩
  | 127 => ⟨S32768x1, .f32⟩
  | _ => ⟨S32768x256, .f32⟩

abbrev hbmTy0_4 (i : Nat) : BufTy := match i % 128 with
  | 0 => ⟨S32768x1, .f32⟩
  | 1 => ⟨S32768x256, .f32⟩
  | 2 => ⟨S32768x256, .f32⟩
  | 3 => ⟨S32768x256, .f32⟩
  | 4 => ⟨S32768x256, .f32⟩
  | 5 => ⟨S_, .f32⟩
  | 6 => ⟨S32768, .f32⟩
  | 7 => ⟨S32768x1, .f32⟩
  | 8 => ⟨S32768x1, .f32⟩
  | 9 => ⟨S_, .f32⟩
  | 10 => ⟨S32768x1, .f32⟩
  | 11 => ⟨S32768x1, .i1⟩
  | 12 => ⟨S_, .f32⟩
  | 13 => ⟨S32768x1, .f32⟩
  | 14 => ⟨S32768x1, .f32⟩
  | 15 => ⟨S_, .f32⟩
  | 16 => ⟨S32768x1, .f32⟩
  | 17 => ⟨S32768x1, .f32⟩
  | 18 => ⟨S32768x256, .f32⟩
  | 19 => ⟨S32768x256, .f32⟩
  | 20 => ⟨S32768x256, .i1⟩
  | 21 => ⟨S32768x256, .f32⟩
  | _ => ⟨S32768x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_call1_v2 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call2_v0 : Ref sig .tc := ⟨.hbm, 28, rfl⟩
abbrev main_call2_cst : Ref sig .tc := ⟨.hbm, 29, rfl⟩
abbrev main_call2_v1 : Ref sig .tc := ⟨.hbm, 30, rfl⟩
abbrev main_call2_v2 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_call3_v0 : Ref sig .tc := ⟨.hbm, 38, rfl⟩
abbrev main_call3_cst : Ref sig .tc := ⟨.hbm, 39, rfl⟩
abbrev main_call3_v1 : Ref sig .tc := ⟨.hbm, 40, rfl⟩
abbrev main_call3_v2 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_3 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_4 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_5 : Ref sig .tc := ⟨.hbm, 61, rfl⟩
abbrev main_v31 : Ref sig .tc := ⟨.hbm, 62, rfl⟩
abbrev main_cst_6 : Ref sig .tc := ⟨.hbm, 63, rfl⟩
abbrev main_v32 : Ref sig .tc := ⟨.hbm, 64, rfl⟩
abbrev main_v33 : Ref sig .tc := ⟨.hbm, 65, rfl⟩
abbrev main_cst_7 : Ref sig .tc := ⟨.hbm, 66, rfl⟩
abbrev main_v34 : Ref sig .tc := ⟨.hbm, 67, rfl⟩
abbrev main_v35 : Ref sig .tc := ⟨.hbm, 68, rfl⟩
abbrev main_cst_8 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_call4_v0 : Ref sig .tc := ⟨.hbm, 86, rfl⟩
abbrev main_call4_cst : Ref sig .tc := ⟨.hbm, 87, rfl⟩
abbrev main_call4_v1 : Ref sig .tc := ⟨.hbm, 88, rfl⟩
abbrev main_call4_v2 : Ref sig .tc := ⟨.hbm, 89, rfl⟩
abbrev main_v52 : Ref sig .tc := ⟨.hbm, 90, rfl⟩
abbrev main_cst_9 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_call5_v0 : Ref sig .tc := ⟨.hbm, 99, rfl⟩
abbrev main_call5_cst : Ref sig .tc := ⟨.hbm, 100, rfl⟩
abbrev main_call5_v1 : Ref sig .tc := ⟨.hbm, 101, rfl⟩
abbrev main_call5_v2 : Ref sig .tc := ⟨.hbm, 102, rfl⟩
abbrev main_v60 : Ref sig .tc := ⟨.hbm, 103, rfl⟩
abbrev main_cst_10 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_call6_v0 : Ref sig .tc := ⟨.hbm, 112, rfl⟩
abbrev main_call6_cst : Ref sig .tc := ⟨.hbm, 113, rfl⟩
abbrev main_call6_v1 : Ref sig .tc := ⟨.hbm, 114, rfl⟩
abbrev main_call6_v2 : Ref sig .tc := ⟨.hbm, 115, rfl⟩
abbrev main_v68 : Ref sig .tc := ⟨.hbm, 116, rfl⟩
abbrev main_cst_11 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_cst_12 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_cst_13 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_cst_14 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_call7_v0 : Ref sig .tc := ⟨.hbm, 144, rfl⟩
abbrev main_call7_cst : Ref sig .tc := ⟨.hbm, 145, rfl⟩
abbrev main_call7_v1 : Ref sig .tc := ⟨.hbm, 146, rfl⟩
abbrev main_call7_v2 : Ref sig .tc := ⟨.hbm, 147, rfl⟩
abbrev main_v92 : Ref sig .tc := ⟨.hbm, 148, rfl⟩
abbrev main_cst_15 : Ref sig .tc := ⟨.hbm, 149, rfl⟩
abbrev main_v93 : Ref sig .tc := ⟨.hbm, 150, rfl⟩
abbrev main_v94 : Ref sig .tc := ⟨.hbm, 151, rfl⟩
abbrev main_cst_16 : Ref sig .tc := ⟨.hbm, 152, rfl⟩
abbrev main_v95 : Ref sig .tc := ⟨.hbm, 153, rfl⟩
abbrev main_v96 : Ref sig .tc := ⟨.hbm, 154, rfl⟩
abbrev main_cst_17 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_call8_v0 : Ref sig .tc := ⟨.hbm, 160, rfl⟩
abbrev main_v101 : Ref sig .tc := ⟨.hbm, 161, rfl⟩
abbrev main_call9_v0 : Ref sig .tc := ⟨.hbm, 162, rfl⟩
abbrev main_call9_cst : Ref sig .tc := ⟨.hbm, 163, rfl⟩
abbrev main_call9_v1 : Ref sig .tc := ⟨.hbm, 164, rfl⟩
abbrev main_call9_v2 : Ref sig .tc := ⟨.hbm, 165, rfl⟩
abbrev main_v102 : Ref sig .tc := ⟨.hbm, 166, rfl⟩
abbrev main_cst_18 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_cst_19 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_cst_20 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_cst_21 : Ref sig .tc := ⟨.hbm, 185, rfl⟩
abbrev main_v118 : Ref sig .tc := ⟨.hbm, 186, rfl⟩
abbrev main_cst_22 : Ref sig .tc := ⟨.hbm, 187, rfl⟩
abbrev main_v119 : Ref sig .tc := ⟨.hbm, 188, rfl⟩
abbrev main_v120 : Ref sig .tc := ⟨.hbm, 189, rfl⟩
abbrev main_cst_23 : Ref sig .tc := ⟨.hbm, 190, rfl⟩
abbrev main_v121 : Ref sig .tc := ⟨.hbm, 191, rfl⟩
abbrev main_v122 : Ref sig .tc := ⟨.hbm, 192, rfl⟩
abbrev main_cst_24 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_call10_v0 : Ref sig .tc := ⟨.hbm, 210, rfl⟩
abbrev main_call10_cst : Ref sig .tc := ⟨.hbm, 211, rfl⟩
abbrev main_call10_v1 : Ref sig .tc := ⟨.hbm, 212, rfl⟩
abbrev main_call10_v2 : Ref sig .tc := ⟨.hbm, 213, rfl⟩
abbrev main_v139 : Ref sig .tc := ⟨.hbm, 214, rfl⟩
abbrev main_cst_25 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_call11_v0 : Ref sig .tc := ⟨.hbm, 223, rfl⟩
abbrev main_call11_cst : Ref sig .tc := ⟨.hbm, 224, rfl⟩
abbrev main_call11_v1 : Ref sig .tc := ⟨.hbm, 225, rfl⟩
abbrev main_call11_v2 : Ref sig .tc := ⟨.hbm, 226, rfl⟩
abbrev main_v147 : Ref sig .tc := ⟨.hbm, 227, rfl⟩
abbrev main_cst_26 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_call12_v0 : Ref sig .tc := ⟨.hbm, 236, rfl⟩
abbrev main_call12_cst : Ref sig .tc := ⟨.hbm, 237, rfl⟩
abbrev main_call12_v1 : Ref sig .tc := ⟨.hbm, 238, rfl⟩
abbrev main_call12_v2 : Ref sig .tc := ⟨.hbm, 239, rfl⟩
abbrev main_v155 : Ref sig .tc := ⟨.hbm, 240, rfl⟩
abbrev main_cst_27 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_cst_28 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩
abbrev main_cst_29 : Ref sig .tc := ⟨.hbm, 255, rfl⟩
abbrev main_v168 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_v173 : Ref sig .tc := ⟨.hbm, 261, rfl⟩
abbrev main_cst_30 : Ref sig .tc := ⟨.hbm, 262, rfl⟩
abbrev main_v174 : Ref sig .tc := ⟨.hbm, 263, rfl⟩
abbrev main_v175 : Ref sig .tc := ⟨.hbm, 264, rfl⟩
abbrev main_v176 : Ref sig .tc := ⟨.hbm, 265, rfl⟩
abbrev main_v177 : Ref sig .tc := ⟨.hbm, 266, rfl⟩
abbrev main_v178 : Ref sig .tc := ⟨.hbm, 267, rfl⟩
abbrev main_call13_v0 : Ref sig .tc := ⟨.hbm, 268, rfl⟩
abbrev main_call13_cst : Ref sig .tc := ⟨.hbm, 269, rfl⟩
abbrev main_call13_v1 : Ref sig .tc := ⟨.hbm, 270, rfl⟩
abbrev main_call13_v2 : Ref sig .tc := ⟨.hbm, 271, rfl⟩
abbrev main_v179 : Ref sig .tc := ⟨.hbm, 272, rfl⟩
abbrev main_cst_31 : Ref sig .tc := ⟨.hbm, 273, rfl⟩
abbrev main_v180 : Ref sig .tc := ⟨.hbm, 274, rfl⟩
abbrev main_v181 : Ref sig .tc := ⟨.hbm, 275, rfl⟩
abbrev main_cst_32 : Ref sig .tc := ⟨.hbm, 276, rfl⟩
abbrev main_v182 : Ref sig .tc := ⟨.hbm, 277, rfl⟩
abbrev main_v183 : Ref sig .tc := ⟨.hbm, 278, rfl⟩
abbrev main_cst_33 : Ref sig .tc := ⟨.hbm, 279, rfl⟩
abbrev main_v184 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_call14_v0 : Ref sig .tc := ⟨.hbm, 284, rfl⟩
abbrev main_v188 : Ref sig .tc := ⟨.hbm, 285, rfl⟩
abbrev main_call15_v0 : Ref sig .tc := ⟨.hbm, 286, rfl⟩
abbrev main_call15_cst : Ref sig .tc := ⟨.hbm, 287, rfl⟩
abbrev main_call15_v1 : Ref sig .tc := ⟨.hbm, 288, rfl⟩
abbrev main_call15_v2 : Ref sig .tc := ⟨.hbm, 289, rfl⟩
abbrev main_v189 : Ref sig .tc := ⟨.hbm, 290, rfl⟩
abbrev main_cst_34 : Ref sig .tc := ⟨.hbm, 291, rfl⟩
abbrev main_v190 : Ref sig .tc := ⟨.hbm, 292, rfl⟩
abbrev main_v191 : Ref sig .tc := ⟨.hbm, 293, rfl⟩
abbrev main_v192 : Ref sig .tc := ⟨.hbm, 294, rfl⟩
abbrev main_v193 : Ref sig .tc := ⟨.hbm, 295, rfl⟩
abbrev main_v194 : Ref sig .tc := ⟨.hbm, 296, rfl⟩
abbrev main_v195 : Ref sig .tc := ⟨.hbm, 297, rfl⟩
abbrev main_v196 : Ref sig .tc := ⟨.hbm, 298, rfl⟩
abbrev main_cst_35 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩
abbrev main_cst_36 : Ref sig .tc := ⟨.hbm, 304, rfl⟩
abbrev main_v201 : Ref sig .tc := ⟨.hbm, 305, rfl⟩
abbrev main_v202 : Ref sig .tc := ⟨.hbm, 306, rfl⟩
abbrev main_v203 : Ref sig .tc := ⟨.hbm, 307, rfl⟩
abbrev main_v204 : Ref sig .tc := ⟨.hbm, 308, rfl⟩
abbrev main_cst_37 : Ref sig .tc := ⟨.hbm, 309, rfl⟩
abbrev main_v205 : Ref sig .tc := ⟨.hbm, 310, rfl⟩
abbrev main_cst_38 : Ref sig .tc := ⟨.hbm, 311, rfl⟩
abbrev main_v206 : Ref sig .tc := ⟨.hbm, 312, rfl⟩
abbrev main_v207 : Ref sig .tc := ⟨.hbm, 313, rfl⟩
abbrev main_cst_39 : Ref sig .tc := ⟨.hbm, 314, rfl⟩
abbrev main_v208 : Ref sig .tc := ⟨.hbm, 315, rfl⟩
abbrev main_v209 : Ref sig .tc := ⟨.hbm, 316, rfl⟩
abbrev main_cst_40 : Ref sig .tc := ⟨.hbm, 317, rfl⟩
abbrev main_v210 : Ref sig .tc := ⟨.hbm, 318, rfl⟩
abbrev main_v211 : Ref sig .tc := ⟨.hbm, 319, rfl⟩
abbrev main_v212 : Ref sig .tc := ⟨.hbm, 320, rfl⟩
abbrev main_v213 : Ref sig .tc := ⟨.hbm, 321, rfl⟩
abbrev main_v214 : Ref sig .tc := ⟨.hbm, 322, rfl⟩
abbrev main_v215 : Ref sig .tc := ⟨.hbm, 323, rfl⟩
abbrev main_v216 : Ref sig .tc := ⟨.hbm, 324, rfl⟩
abbrev main_v217 : Ref sig .tc := ⟨.hbm, 325, rfl⟩
abbrev main_v218 : Ref sig .tc := ⟨.hbm, 326, rfl⟩
abbrev main_v219 : Ref sig .tc := ⟨.hbm, 327, rfl⟩
abbrev main_v220 : Ref sig .tc := ⟨.hbm, 328, rfl⟩
abbrev main_v221 : Ref sig .tc := ⟨.hbm, 329, rfl⟩
abbrev main_v222 : Ref sig .tc := ⟨.hbm, 330, rfl⟩
abbrev main_v223 : Ref sig .tc := ⟨.hbm, 331, rfl⟩
abbrev main_v224 : Ref sig .tc := ⟨.hbm, 332, rfl⟩
abbrev main_v225 : Ref sig .tc := ⟨.hbm, 333, rfl⟩
abbrev main_call16_v0 : Ref sig .tc := ⟨.hbm, 334, rfl⟩
abbrev main_call16_cst : Ref sig .tc := ⟨.hbm, 335, rfl⟩
abbrev main_call16_v1 : Ref sig .tc := ⟨.hbm, 336, rfl⟩
abbrev main_call16_v2 : Ref sig .tc := ⟨.hbm, 337, rfl⟩
abbrev main_v226 : Ref sig .tc := ⟨.hbm, 338, rfl⟩
abbrev main_cst_41 : Ref sig .tc := ⟨.hbm, 339, rfl⟩
abbrev main_v227 : Ref sig .tc := ⟨.hbm, 340, rfl⟩
abbrev main_v228 : Ref sig .tc := ⟨.hbm, 341, rfl⟩
abbrev main_v229 : Ref sig .tc := ⟨.hbm, 342, rfl⟩
abbrev main_v230 : Ref sig .tc := ⟨.hbm, 343, rfl⟩
abbrev main_v231 : Ref sig .tc := ⟨.hbm, 344, rfl⟩
abbrev main_v232 : Ref sig .tc := ⟨.hbm, 345, rfl⟩
abbrev main_v233 : Ref sig .tc := ⟨.hbm, 346, rfl⟩
abbrev main_call17_v0 : Ref sig .tc := ⟨.hbm, 347, rfl⟩
abbrev main_call17_cst : Ref sig .tc := ⟨.hbm, 348, rfl⟩
abbrev main_call17_v1 : Ref sig .tc := ⟨.hbm, 349, rfl⟩
abbrev main_call17_v2 : Ref sig .tc := ⟨.hbm, 350, rfl⟩
abbrev main_v234 : Ref sig .tc := ⟨.hbm, 351, rfl⟩
abbrev main_cst_42 : Ref sig .tc := ⟨.hbm, 352, rfl⟩
abbrev main_v235 : Ref sig .tc := ⟨.hbm, 353, rfl⟩
abbrev main_v236 : Ref sig .tc := ⟨.hbm, 354, rfl⟩
abbrev main_v237 : Ref sig .tc := ⟨.hbm, 355, rfl⟩
abbrev main_v238 : Ref sig .tc := ⟨.hbm, 356, rfl⟩
abbrev main_v239 : Ref sig .tc := ⟨.hbm, 357, rfl⟩
abbrev main_v240 : Ref sig .tc := ⟨.hbm, 358, rfl⟩
abbrev main_v241 : Ref sig .tc := ⟨.hbm, 359, rfl⟩
abbrev main_call18_v0 : Ref sig .tc := ⟨.hbm, 360, rfl⟩
abbrev main_call18_cst : Ref sig .tc := ⟨.hbm, 361, rfl⟩
abbrev main_call18_v1 : Ref sig .tc := ⟨.hbm, 362, rfl⟩
abbrev main_call18_v2 : Ref sig .tc := ⟨.hbm, 363, rfl⟩
abbrev main_v242 : Ref sig .tc := ⟨.hbm, 364, rfl⟩
abbrev main_cst_43 : Ref sig .tc := ⟨.hbm, 365, rfl⟩
abbrev main_v243 : Ref sig .tc := ⟨.hbm, 366, rfl⟩
abbrev main_v244 : Ref sig .tc := ⟨.hbm, 367, rfl⟩
abbrev main_v245 : Ref sig .tc := ⟨.hbm, 368, rfl⟩
abbrev main_v246 : Ref sig .tc := ⟨.hbm, 369, rfl⟩
abbrev main_v247 : Ref sig .tc := ⟨.hbm, 370, rfl⟩
abbrev main_v248 : Ref sig .tc := ⟨.hbm, 371, rfl⟩
abbrev main_cst_44 : Ref sig .tc := ⟨.hbm, 372, rfl⟩
abbrev main_v249 : Ref sig .tc := ⟨.hbm, 373, rfl⟩
abbrev main_v250 : Ref sig .tc := ⟨.hbm, 374, rfl⟩
abbrev main_v251 : Ref sig .tc := ⟨.hbm, 375, rfl⟩
abbrev main_v252 : Ref sig .tc := ⟨.hbm, 376, rfl⟩
abbrev main_v253 : Ref sig .tc := ⟨.hbm, 377, rfl⟩
abbrev main_v254 : Ref sig .tc := ⟨.hbm, 378, rfl⟩
abbrev main_cst_45 : Ref sig .tc := ⟨.hbm, 379, rfl⟩
abbrev main_v255 : Ref sig .tc := ⟨.hbm, 380, rfl⟩
abbrev main_v256 : Ref sig .tc := ⟨.hbm, 381, rfl⟩
abbrev main_v257 : Ref sig .tc := ⟨.hbm, 382, rfl⟩
abbrev main_v258 : Ref sig .tc := ⟨.hbm, 383, rfl⟩
abbrev main_v259 : Ref sig .tc := ⟨.hbm, 384, rfl⟩
abbrev main_v260 : Ref sig .tc := ⟨.hbm, 385, rfl⟩
abbrev main_cst_46 : Ref sig .tc := ⟨.hbm, 386, rfl⟩
abbrev main_v261 : Ref sig .tc := ⟨.hbm, 387, rfl⟩
abbrev main_v262 : Ref sig .tc := ⟨.hbm, 388, rfl⟩
abbrev main_v263 : Ref sig .tc := ⟨.hbm, 389, rfl⟩
abbrev main_v264 : Ref sig .tc := ⟨.hbm, 390, rfl⟩
abbrev main_v265 : Ref sig .tc := ⟨.hbm, 391, rfl⟩
abbrev main_call19_v0 : Ref sig .tc := ⟨.hbm, 392, rfl⟩
abbrev main_call19_cst : Ref sig .tc := ⟨.hbm, 393, rfl⟩
abbrev main_call19_v1 : Ref sig .tc := ⟨.hbm, 394, rfl⟩
abbrev main_call19_v2 : Ref sig .tc := ⟨.hbm, 395, rfl⟩
abbrev main_v266 : Ref sig .tc := ⟨.hbm, 396, rfl⟩
abbrev main_cst_47 : Ref sig .tc := ⟨.hbm, 397, rfl⟩
abbrev main_v267 : Ref sig .tc := ⟨.hbm, 398, rfl⟩
abbrev main_v268 : Ref sig .tc := ⟨.hbm, 399, rfl⟩
abbrev main_cst_48 : Ref sig .tc := ⟨.hbm, 400, rfl⟩
abbrev main_v269 : Ref sig .tc := ⟨.hbm, 401, rfl⟩
abbrev main_v270 : Ref sig .tc := ⟨.hbm, 402, rfl⟩
abbrev main_cst_49 : Ref sig .tc := ⟨.hbm, 403, rfl⟩
abbrev main_v271 : Ref sig .tc := ⟨.hbm, 404, rfl⟩
abbrev main_v272 : Ref sig .tc := ⟨.hbm, 405, rfl⟩
abbrev main_v273 : Ref sig .tc := ⟨.hbm, 406, rfl⟩
abbrev main_v274 : Ref sig .tc := ⟨.hbm, 407, rfl⟩
abbrev main_call20_v0 : Ref sig .tc := ⟨.hbm, 408, rfl⟩
abbrev main_v275 : Ref sig .tc := ⟨.hbm, 409, rfl⟩
abbrev main_call21_v0 : Ref sig .tc := ⟨.hbm, 410, rfl⟩
abbrev main_call21_cst : Ref sig .tc := ⟨.hbm, 411, rfl⟩
abbrev main_call21_v1 : Ref sig .tc := ⟨.hbm, 412, rfl⟩
abbrev main_call21_v2 : Ref sig .tc := ⟨.hbm, 413, rfl⟩
abbrev main_v276 : Ref sig .tc := ⟨.hbm, 414, rfl⟩
abbrev main_cst_50 : Ref sig .tc := ⟨.hbm, 415, rfl⟩
abbrev main_v277 : Ref sig .tc := ⟨.hbm, 416, rfl⟩
abbrev main_v278 : Ref sig .tc := ⟨.hbm, 417, rfl⟩
abbrev main_v279 : Ref sig .tc := ⟨.hbm, 418, rfl⟩
abbrev main_v280 : Ref sig .tc := ⟨.hbm, 419, rfl⟩
abbrev main_v281 : Ref sig .tc := ⟨.hbm, 420, rfl⟩
abbrev main_v282 : Ref sig .tc := ⟨.hbm, 421, rfl⟩
abbrev main_v283 : Ref sig .tc := ⟨.hbm, 422, rfl⟩
abbrev main_cst_51 : Ref sig .tc := ⟨.hbm, 423, rfl⟩
abbrev main_v284 : Ref sig .tc := ⟨.hbm, 424, rfl⟩
abbrev main_v285 : Ref sig .tc := ⟨.hbm, 425, rfl⟩
abbrev main_v286 : Ref sig .tc := ⟨.hbm, 426, rfl⟩
abbrev main_v287 : Ref sig .tc := ⟨.hbm, 427, rfl⟩
abbrev main_cst_52 : Ref sig .tc := ⟨.hbm, 428, rfl⟩
abbrev main_v288 : Ref sig .tc := ⟨.hbm, 429, rfl⟩
abbrev main_v289 : Ref sig .tc := ⟨.hbm, 430, rfl⟩
abbrev main_v290 : Ref sig .tc := ⟨.hbm, 431, rfl⟩
abbrev main_v291 : Ref sig .tc := ⟨.hbm, 432, rfl⟩
abbrev main_cst_53 : Ref sig .tc := ⟨.hbm, 433, rfl⟩
abbrev main_v292 : Ref sig .tc := ⟨.hbm, 434, rfl⟩
abbrev main_cst_54 : Ref sig .tc := ⟨.hbm, 435, rfl⟩
abbrev main_v293 : Ref sig .tc := ⟨.hbm, 436, rfl⟩
abbrev main_v294 : Ref sig .tc := ⟨.hbm, 437, rfl⟩
abbrev main_cst_55 : Ref sig .tc := ⟨.hbm, 438, rfl⟩
abbrev main_v295 : Ref sig .tc := ⟨.hbm, 439, rfl⟩
abbrev main_v296 : Ref sig .tc := ⟨.hbm, 440, rfl⟩
abbrev main_cst_56 : Ref sig .tc := ⟨.hbm, 441, rfl⟩
abbrev main_v297 : Ref sig .tc := ⟨.hbm, 442, rfl⟩
abbrev main_v298 : Ref sig .tc := ⟨.hbm, 443, rfl⟩
abbrev main_v299 : Ref sig .tc := ⟨.hbm, 444, rfl⟩
abbrev main_v300 : Ref sig .tc := ⟨.hbm, 445, rfl⟩
abbrev main_v301 : Ref sig .tc := ⟨.hbm, 446, rfl⟩
abbrev main_v302 : Ref sig .tc := ⟨.hbm, 447, rfl⟩
abbrev main_v303 : Ref sig .tc := ⟨.hbm, 448, rfl⟩
abbrev main_v304 : Ref sig .tc := ⟨.hbm, 449, rfl⟩
abbrev main_v305 : Ref sig .tc := ⟨.hbm, 450, rfl⟩
abbrev main_v306 : Ref sig .tc := ⟨.hbm, 451, rfl⟩
abbrev main_v307 : Ref sig .tc := ⟨.hbm, 452, rfl⟩
abbrev main_v308 : Ref sig .tc := ⟨.hbm, 453, rfl⟩
abbrev main_v309 : Ref sig .tc := ⟨.hbm, 454, rfl⟩
abbrev main_v310 : Ref sig .tc := ⟨.hbm, 455, rfl⟩
abbrev main_v311 : Ref sig .tc := ⟨.hbm, 456, rfl⟩
abbrev main_v312 : Ref sig .tc := ⟨.hbm, 457, rfl⟩
abbrev main_call22_v0 : Ref sig .tc := ⟨.hbm, 458, rfl⟩
abbrev main_call22_cst : Ref sig .tc := ⟨.hbm, 459, rfl⟩
abbrev main_call22_v1 : Ref sig .tc := ⟨.hbm, 460, rfl⟩
abbrev main_call22_v2 : Ref sig .tc := ⟨.hbm, 461, rfl⟩
abbrev main_v313 : Ref sig .tc := ⟨.hbm, 462, rfl⟩
abbrev main_cst_57 : Ref sig .tc := ⟨.hbm, 463, rfl⟩
abbrev main_v314 : Ref sig .tc := ⟨.hbm, 464, rfl⟩
abbrev main_v315 : Ref sig .tc := ⟨.hbm, 465, rfl⟩
abbrev main_v316 : Ref sig .tc := ⟨.hbm, 466, rfl⟩
abbrev main_v317 : Ref sig .tc := ⟨.hbm, 467, rfl⟩
abbrev main_v318 : Ref sig .tc := ⟨.hbm, 468, rfl⟩
abbrev main_v319 : Ref sig .tc := ⟨.hbm, 469, rfl⟩
abbrev main_v320 : Ref sig .tc := ⟨.hbm, 470, rfl⟩
abbrev main_call23_v0 : Ref sig .tc := ⟨.hbm, 471, rfl⟩
abbrev main_call23_cst : Ref sig .tc := ⟨.hbm, 472, rfl⟩
abbrev main_call23_v1 : Ref sig .tc := ⟨.hbm, 473, rfl⟩
abbrev main_call23_v2 : Ref sig .tc := ⟨.hbm, 474, rfl⟩
abbrev main_v321 : Ref sig .tc := ⟨.hbm, 475, rfl⟩
abbrev main_cst_58 : Ref sig .tc := ⟨.hbm, 476, rfl⟩
abbrev main_v322 : Ref sig .tc := ⟨.hbm, 477, rfl⟩
abbrev main_v323 : Ref sig .tc := ⟨.hbm, 478, rfl⟩
abbrev main_v324 : Ref sig .tc := ⟨.hbm, 479, rfl⟩
abbrev main_v325 : Ref sig .tc := ⟨.hbm, 480, rfl⟩
abbrev main_v326 : Ref sig .tc := ⟨.hbm, 481, rfl⟩
abbrev main_v327 : Ref sig .tc := ⟨.hbm, 482, rfl⟩
abbrev main_v328 : Ref sig .tc := ⟨.hbm, 483, rfl⟩
abbrev main_call24_v0 : Ref sig .tc := ⟨.hbm, 484, rfl⟩
abbrev main_call24_cst : Ref sig .tc := ⟨.hbm, 485, rfl⟩
abbrev main_call24_v1 : Ref sig .tc := ⟨.hbm, 486, rfl⟩
abbrev main_call24_v2 : Ref sig .tc := ⟨.hbm, 487, rfl⟩
abbrev main_v329 : Ref sig .tc := ⟨.hbm, 488, rfl⟩
abbrev main_cst_59 : Ref sig .tc := ⟨.hbm, 489, rfl⟩
abbrev main_v330 : Ref sig .tc := ⟨.hbm, 490, rfl⟩
abbrev main_v331 : Ref sig .tc := ⟨.hbm, 491, rfl⟩
abbrev main_v332 : Ref sig .tc := ⟨.hbm, 492, rfl⟩
abbrev main_v333 : Ref sig .tc := ⟨.hbm, 493, rfl⟩
abbrev main_v334 : Ref sig .tc := ⟨.hbm, 494, rfl⟩
abbrev main_v335 : Ref sig .tc := ⟨.hbm, 495, rfl⟩
abbrev main_cst_60 : Ref sig .tc := ⟨.hbm, 496, rfl⟩
abbrev main_v336 : Ref sig .tc := ⟨.hbm, 497, rfl⟩
abbrev main_v337 : Ref sig .tc := ⟨.hbm, 498, rfl⟩
abbrev main_v338 : Ref sig .tc := ⟨.hbm, 499, rfl⟩
abbrev main_v339 : Ref sig .tc := ⟨.hbm, 500, rfl⟩
abbrev main_v340 : Ref sig .tc := ⟨.hbm, 501, rfl⟩
abbrev main_v341 : Ref sig .tc := ⟨.hbm, 502, rfl⟩
abbrev main_cst_61 : Ref sig .tc := ⟨.hbm, 503, rfl⟩
abbrev main_v342 : Ref sig .tc := ⟨.hbm, 504, rfl⟩
abbrev main_v343 : Ref sig .tc := ⟨.hbm, 505, rfl⟩
abbrev main_v344 : Ref sig .tc := ⟨.hbm, 506, rfl⟩
abbrev main_v345 : Ref sig .tc := ⟨.hbm, 507, rfl⟩
abbrev main_v346 : Ref sig .tc := ⟨.hbm, 508, rfl⟩
abbrev main_v347 : Ref sig .tc := ⟨.hbm, 509, rfl⟩
abbrev main_cst_62 : Ref sig .tc := ⟨.hbm, 510, rfl⟩
abbrev main_v348 : Ref sig .tc := ⟨.hbm, 511, rfl⟩
abbrev main_v349 : Ref sig .tc := ⟨.hbm, 512, rfl⟩
abbrev main_v350 : Ref sig .tc := ⟨.hbm, 513, rfl⟩
abbrev main_v351 : Ref sig .tc := ⟨.hbm, 514, rfl⟩
abbrev main_v352 : Ref sig .tc := ⟨.hbm, 515, rfl⟩
abbrev main_call25_v0 : Ref sig .tc := ⟨.hbm, 516, rfl⟩
abbrev main_call25_cst : Ref sig .tc := ⟨.hbm, 517, rfl⟩
abbrev main_call25_v1 : Ref sig .tc := ⟨.hbm, 518, rfl⟩
abbrev main_call25_v2 : Ref sig .tc := ⟨.hbm, 519, rfl⟩
abbrev main_v353 : Ref sig .tc := ⟨.hbm, 520, rfl⟩
abbrev main_cst_63 : Ref sig .tc := ⟨.hbm, 521, rfl⟩
abbrev main_v354 : Ref sig .tc := ⟨.hbm, 522, rfl⟩
abbrev main_v355 : Ref sig .tc := ⟨.hbm, 523, rfl⟩
abbrev main_cst_64 : Ref sig .tc := ⟨.hbm, 524, rfl⟩
abbrev main_v356 : Ref sig .tc := ⟨.hbm, 525, rfl⟩
abbrev main_v357 : Ref sig .tc := ⟨.hbm, 526, rfl⟩
abbrev main_cst_65 : Ref sig .tc := ⟨.hbm, 527, rfl⟩
abbrev main_v358 : Ref sig .tc := ⟨.hbm, 528, rfl⟩
abbrev main_v359 : Ref sig .tc := ⟨.hbm, 529, rfl⟩
abbrev main_v360 : Ref sig .tc := ⟨.hbm, 530, rfl⟩
abbrev main_v361 : Ref sig .tc := ⟨.hbm, 531, rfl⟩
abbrev main_call26_v0 : Ref sig .tc := ⟨.hbm, 532, rfl⟩
abbrev main_v362 : Ref sig .tc := ⟨.hbm, 533, rfl⟩

abbrev nD : Nat := 1
abbrev τ : Topo := Topo.v7x

variable {F : FTy → Type} [FloatOps F]
-- ==== Proof.Consts.lean ====
/- The float constants the two programs spell, as the extended reals they denote at `Ideal`. -/
module

public import Idealize.ShloMosaic.PureOps.Ideal
public import Idealize.ShloMosaic.PureOps.IdealRules
public import proofs.«01_k».proof.KernelIdeal

@[expose] public section

noncomputable section

namespace Cert.Collapse

open Idealize.ShloMosaic

/-- The floor under a norm: the f32 nearest to `1e-12`. -/
def flr : ℝ := 2305843 / 2305843009213693952
/-- The alignment every state is drawn to: the f32 nearest to `0.38`. -/
def rest : ℝ := 3187671 / 8388608
/-- The strength of the first two pulls: the f32 nearest to `0.1`. -/
def tenth : ℝ := 13421773 / 134217728
/-- The strength of the third pull: the f32 nearest to `0.05`. -/
def twentieth : ℝ := 13421773 / 268435456
/-- The slack in the clamp's divisor: the f32 nearest to `1e-8`. -/
def slack : ℝ := 11258999 / 1125899906842624

/-- The floor is positive. -/
theorem flr_pos : 0 < flr := by norm_num [flr]
/-- The clamp's slack is positive. -/
theorem slack_pos : 0 < slack := by norm_num [slack]

/-- The zero word denotes `0`. -/
theorem bits_zero : Ideal.ofBits .f32 0x00000000#32 = 0 := by
  simp [Ideal.ofBits, Ideal.ieee]
/-- The word of `1` denotes `1`. -/
theorem bits_one : Ideal.ofBits .f32 0x3F800000#32 = 1 := by
  simp [Ideal.ofBits, Ideal.ieee, -EReal.coe_mul]; norm_num
/-- The word of `2` denotes `2`. -/
theorem bits_two : Ideal.ofBits .f32 0x40000000#32 = ((2 : ℝ) : EReal) := by
  simp [Ideal.ofBits, Ideal.ieee, -EReal.coe_mul]; norm_num
/-- The word of `10` denotes `10`. -/
theorem bits_ten : Ideal.ofBits .f32 0x41200000#32 = ((10 : ℝ) : EReal) := by
  simp [Ideal.ofBits, Ideal.ieee, -EReal.coe_mul]; norm_num
/-- The word of `1e-12` denotes `flr`. -/
theorem bits_flr : Ideal.ofBits .f32 0x2B8CBCCC#32 = (flr : EReal) := by
  simp [Ideal.ofBits, Ideal.ieee, -EReal.coe_mul, flr]; norm_num
/-- The word of `0.38` denotes `rest`. -/
theorem bits_rest : Ideal.ofBits .f32 0x3EC28F5C#32 = (rest : EReal) := by
  simp [Ideal.ofBits, Ideal.ieee, -EReal.coe_mul, rest]; norm_num
/-- The word of `0.1` denotes `tenth`. -/
theorem bits_tenth : Ideal.ofBits .f32 0x3DCCCCCD#32 = (tenth : EReal) := by
  simp [Ideal.ofBits, Ideal.ieee, -EReal.coe_mul, tenth]; norm_num
/-- The word of `0.05` denotes `twentieth`. -/
theorem bits_twentieth : Ideal.ofBits .f32 0x3D4CCCCD#32 = (twentieth : EReal) := by
  simp [Ideal.ofBits, Ideal.ieee, -EReal.coe_mul, twentieth]; norm_num
/-- The word of `1e-8` denotes `slack`. -/
theorem bits_slack : Ideal.ofBits .f32 0x322BCC77#32 = (slack : EReal) := by
  simp [Ideal.ofBits, Ideal.ieee, -EReal.coe_mul, slack]; norm_num
/-- The word of `∞` denotes `⊤`. -/
theorem bits_inf : Ideal.ofBits .f32 0x7F800000#32 = ⊤ := by
  simp [Ideal.ofBits, Ideal.ieee]

/-- The named floor under a squared norm denotes the square of the floor under a norm. -/
theorem named_flr : (Named.named (F := Ideal) Cert.KernelIdeal.κ "floor_sq" (φ := .f32) 0x179ABE15#32 : Ideal .f32) = ((flr * flr : ℝ) : EReal) := by
  have h := IdealRules.named_const.ideal_named_scalar Cert.KernelIdeal.κ "floor_sq" (φ := .f32) 0x179ABE15#32 ((5316911940649 / 5316911983139663491615228241121378304 : ℝ) : EReal) rfl
  refine h.trans ?_
  norm_num [flr]

end Cert.Collapse

end
-- ==== Proof.Row.lean ====
/- One row of the computation over the extended reals: the reference's layer, the kernel's step, and the clamp. -/
module

public import proofs.«01_k».proof.Proof.Consts

@[expose] public section

noncomputable section

namespace Cert.Collapse

open Idealize.ShloMosaic

/-- A row of 256 entries. -/
abbrev Row := Fin 256 → EReal

/-- The inner product of two rows. -/
def dot (x y : Row) : EReal := ∑ k, x k * y k

/-- A row over its norm, the norm kept off zero. -/
def unit (x : Row) : Row := fun i => Ideal.div (x i) (max (Ideal.sqrt (dot x x)) (flr : EReal))

/-- The update the two weight matrices make, from the first product's rows. -/
def delta (z : Row) (b1 : Row) (W2 : Fin 256 → Row) : Row :=
  fun i => ∑ j, Ideal.tanh (z j + b1 j) * W2 i j

/-- The scale the clamp puts on a row of norm `n`. -/
def cut (n : EReal) : EReal :=
  Ideal.div ((10 : ℝ) : EReal) (n + (slack : EReal))

/-- The factor the kernel carries along with an unclamped row. -/
def scale (x : Row) : EReal :=
  if Ideal.cmp .ogt (Ideal.sqrt (dot x x)) ((10 : ℝ) : EReal) = 1#1 then cut (Ideal.sqrt (dot x x)) else 1

/-- A row clamped as the reference clamps it. -/
def clamp (x : Row) : Row := fun i =>
  if Ideal.cmp .ogt (Ideal.sqrt (dot x x)) ((10 : ℝ) : EReal) = 1#1 then x i * cut (Ideal.sqrt (dot x x)) else x i

/-- The reference's pull of `h` away from or toward the direction `d`. -/
def pull (c : ℝ) (h d : Row) : Row := fun i =>
  ((c : EReal) * ((rest : EReal) - ∑ k, unit h k * d k)) * unit (fun j => h j - d j) i

/-- The reference's layer before the clamp. -/
def refPre (W1 : Fin 256 → Row) (b1 : Row) (W2 : Fin 256 → Row) (b2 : Row) (d0 d1 d2 : Row) (h : Row) : Row := fun i =>
  h i + (delta (fun j => dot h (W1 j)) b1 W2 i + b2 i) - pull tenth h d0 i - pull tenth h d1 i - pull twentieth h d2 i

/-- The three strengths, by direction. -/
def strength : Fin 3 → ℝ := ![tenth, tenth, twentieth]

/-- The kernel's coefficient of one direction, from the product `a` with it and the row's squared norm `q`. -/
def coef (c : ℝ) (a q : EReal) : EReal :=
  (c : EReal) * ((rest : EReal) - a * Ideal.rsqrt (max q ((flr * flr : ℝ) : EReal)))
    * Ideal.rsqrt (max (q - ((2 : ℝ) : EReal) * a + 1) ((flr * flr : ℝ) : EReal))

/-- The kernel's coefficients of the three directions, for the row `g` scaled by `s`. -/
def coefs (d : Fin 3 → Row) (g : Row) (s : EReal) : Fin 3 → EReal := fun t =>
  coef (strength t) (dot g (d t) * s) (dot g g * s * s)

/-- The kernel's step from the row `g`, standing for `g` scaled by `s`, to the next unclamped row. -/
def step (W1 : Fin 256 → Row) (b1 : Row) (W2 : Fin 256 → Row) (b2 : Row) (d : Fin 3 → Row) (g : Row) (s : EReal) : Row :=
  fun i => g i * (s * (1 - ∑ t, coefs d g s t)) + delta (fun j => s * dot g (W1 j)) b1 W2 i
    + (∑ t, coefs d g s t * d t i + 1 * b2 i)

end Cert.Collapse

end
-- ==== Proof.Step.lean ====
/- The kernel's step is the reference's layer before the clamp, whenever the carried row stands for a finite state. -/
module

public import proofs.«01_k».proof.Proof.Row

@[expose] public section

noncomputable section

namespace Cert.Collapse

open Idealize.ShloMosaic

/-- A sum of reals, read in the extended reals. -/
theorem coe_sum {n : Nat} (f : Fin n → ℝ) : ∑ k, ((f k : ℝ) : EReal) = ((∑ k, f k : ℝ) : EReal) := by
  induction n with
  | zero => simp
  | succ n ih => rw [Fin.sum_univ_castSucc, Fin.sum_univ_castSucc, ih, EReal.coe_add]

/-- A nonnegative real factor goes into a sum of extended reals. -/
theorem mul_sum_of_nonneg {n : Nat} (s : ℝ) (hs : 0 ≤ s) (f : Fin n → EReal) : (s : EReal) * ∑ k, f k = ∑ k, (s : EReal) * f k := by
  induction n with
  | zero => simp
  | succ n ih =>
    rw [Fin.sum_univ_castSucc, Fin.sum_univ_castSucc, ← ih]
    exact EReal.left_distrib_of_nonneg_of_ne_top (EReal.coe_nonneg.mpr hs) (EReal.coe_ne_top s) _ _

/-- The inner product of two finite rows. -/
theorem dot_coe (x y : Fin 256 → ℝ) : dot (fun i => (x i : EReal)) (fun i => (y i : EReal)) = ((∑ k, x k * y k : ℝ) : EReal) := by
  simp only [dot, ← EReal.coe_mul]
  exact coe_sum _

/-- A maximum of reals, read in the extended reals. -/
theorem coe_max (a b : ℝ) : max (a : EReal) (b : EReal) = ((max a b : ℝ) : EReal) :=
  (EReal.coe_strictMono.monotone.map_max).symm

/-- The reciprocal root of a squared norm kept off zero, as a real. -/
theorem rsqrt_floor (q : ℝ) :
    Ideal.rsqrt (max (q : EReal) ((flr * flr : ℝ) : EReal)) = (((Real.sqrt (max q (flr * flr)))⁻¹ : ℝ) : EReal) := by
  have h : 0 < max q (flr * flr) := lt_max_of_lt_right (mul_pos flr_pos flr_pos)
  rw [coe_max, Ideal.rsqrt_coe, if_neg (not_lt.mpr h.le), if_neg h.ne']

/-- The root of a squared norm kept off zero is the norm kept off zero. -/
theorem sqrt_floor (q : ℝ) (hq : 0 ≤ q) : Real.sqrt (max q (flr * flr)) = max (Real.sqrt q) flr := by
  have h : Real.sqrt (flr * flr) = flr := Real.sqrt_mul_self flr_pos.le
  rcases le_total q (flr * flr) with hl | hl
  · rw [max_eq_right hl, h, max_eq_right (h ▸ Real.sqrt_le_sqrt hl)]
  · rw [max_eq_left hl, max_eq_left (h ▸ Real.sqrt_le_sqrt hl)]

/-- A finite row over its norm, entry by entry. -/
theorem unit_coe (x : Fin 256 → ℝ) (i : Fin 256) :
    unit (fun i => (x i : EReal)) i = ((x i * (Real.sqrt (max (∑ k, x k * x k) (flr * flr)))⁻¹ : ℝ) : EReal) := by
  have hq : 0 ≤ ∑ k, x k * x k := Finset.sum_nonneg fun k _ => mul_self_nonneg (x k)
  have hm : 0 < max (Real.sqrt (∑ k, x k * x k)) flr := lt_max_of_lt_right flr_pos
  rw [unit, dot_coe, Ideal.sqrt_coe, if_neg (not_lt.mpr hq), coe_max, Ideal.div_coe hm.ne', sqrt_floor _ hq, one_div, ← EReal.coe_mul]

/-- The squared distance from a finite row to a direction of length one. -/
theorem dist_sq (h d : Fin 256 → ℝ) (hd : ∑ k, d k * d k = 1) :
    ∑ k, (h k - d k) * (h k - d k) = (∑ k, h k * h k) - 2 * (∑ k, h k * d k) + 1 := by
  rw [← hd, Finset.mul_sum, ← Finset.sum_sub_distrib, ← Finset.sum_add_distrib]
  exact Finset.sum_congr rfl fun k _ => by ring

/-- The real the kernel's coefficient of one direction is worth. -/
def coefR (c a q : ℝ) : ℝ :=
  c * (rest - a * (Real.sqrt (max q (flr * flr)))⁻¹) * (Real.sqrt (max (q - 2 * a + 1) (flr * flr)))⁻¹

/-- The kernel's coefficient at finite arguments. -/
theorem coef_coe (c a q : ℝ) : coef c (a : EReal) (q : EReal) = (coefR c a q : EReal) := by
  have e : (q : EReal) - ((2 : ℝ) : EReal) * (a : EReal) + 1 = ((q - 2 * a + 1 : ℝ) : EReal) := by
    rw [EReal.coe_add, EReal.coe_sub, EReal.coe_mul, EReal.coe_one]
  rw [coef, e, rsqrt_floor, rsqrt_floor, coefR, ← EReal.coe_mul, ← EReal.coe_sub, ← EReal.coe_mul, ← EReal.coe_mul]

/-- The reference's pull toward a direction of length one, at a finite row: the kernel's coefficient times the offset. -/
theorem pull_coe (c : ℝ) (h d : Fin 256 → ℝ) (hd : ∑ k, d k * d k = 1) (i : Fin 256) :
    pull c (fun i => (h i : EReal)) (fun i => (d i : EReal)) i
      = ((coefR c (∑ k, h k * d k) (∑ k, h k * h k) * (h i - d i) : ℝ) : EReal) := by
  have hs : ∀ k, unit (fun i => (h i : EReal)) k * (d k : EReal)
      = (((h k * d k) * (Real.sqrt (max (∑ k, h k * h k) (flr * flr)))⁻¹ : ℝ) : EReal) := fun k => by
    rw [unit_coe, ← EReal.coe_mul]; congr 1; ring
  have hv : (fun j => ((h j : EReal) - (d j : EReal))) = fun j => ((h j - d j : ℝ) : EReal) := by
    funext j; rw [EReal.coe_sub]
  unfold pull
  rw [Finset.sum_congr rfl fun k _ => hs k, coe_sum, hv, unit_coe, dist_sq h d hd, ← Finset.sum_mul,
    ← EReal.coe_sub, ← EReal.coe_mul, ← EReal.coe_mul]
  congr 1
  unfold coefR
  ring

/-- THE STEP: where the carried row `g` scaled by the nonnegative real `s` is the finite state `h`, and the directions are
    finite of length one, the kernel's step is the reference's layer of `h` before the clamp. -/
theorem step_eq_refPre (W1 : Fin 256 → Row) (b1 : Row) (W2 : Fin 256 → Row) (b2 : Row) (d : Fin 3 → Fin 256 → ℝ)
    (hd : ∀ t, ∑ k, d t k * d t k = 1) (g : Row) (s : ℝ) (hs : 0 ≤ s) (h : Fin 256 → ℝ)
    (hg : ∀ i, g i * (s : EReal) = (h i : EReal)) :
    step W1 b1 W2 b2 (fun t i => (d t i : EReal)) g (s : EReal)
      = refPre W1 b1 W2 b2 (fun i => (d 0 i : EReal)) (fun i => (d 1 i : EReal)) (fun i => (d 2 i : EReal)) (fun i => (h i : EReal)) := by
  have hdot : ∀ w : Row, (s : EReal) * dot g w = dot (fun i => (h i : EReal)) w := fun w => by
    rw [dot, dot, mul_sum_of_nonneg s hs]
    exact Finset.sum_congr rfl fun k _ => by rw [← hg k, ← mul_assoc, mul_comm (s : EReal)]
  have hq : dot g g * (s : EReal) * (s : EReal) = ((∑ k, h k * h k : ℝ) : EReal) := by
    rw [mul_comm (dot g g), hdot, mul_comm, ← dot_coe, dot, dot, mul_sum_of_nonneg s hs]
    exact Finset.sum_congr rfl fun k _ => by rw [mul_left_comm, mul_comm (s : EReal) (g k), hg]
  have hc : coefs (fun t i => (d t i : EReal)) g (s : EReal)
      = fun t => ((coefR (strength t) (∑ k, h k * d t k) (∑ k, h k * h k) : ℝ) : EReal) := by
    funext t
    rw [coefs, hq, mul_comm (dot g _), hdot, dot_coe, coef_coe]
  have hδ : delta (fun j => (s : EReal) * dot g (W1 j)) b1 W2 = delta (fun j => dot (fun i => (h i : EReal)) (W1 j)) b1 W2 := by
    simp only [hdot]
  funext i
  unfold step refPre
  rw [hc, hδ, pull_coe _ _ _ (hd 0), pull_coe _ _ _ (hd 1), pull_coe _ _ _ (hd 2), ← mul_assoc, hg i, one_mul]
  generalize delta _ _ _ i = D
  generalize b2 i = B
  simp only [← EReal.coe_mul, coe_sum, ← EReal.coe_one, ← EReal.coe_sub]
  simp only [sub_eq_add_neg (G := EReal), ← EReal.coe_neg]
  have comm : ∀ (a b c e f : ℝ), (a : EReal) + (D + B) + ((-b : ℝ) : EReal) + ((-c : ℝ) : EReal) + ((-e : ℝ) : EReal)
      = ((a + -b + -c + -e - f : ℝ) : EReal) + D + ((f : EReal) + B) := fun a b c e f => by
    rw [sub_eq_add_neg, EReal.coe_add, EReal.coe_add, EReal.coe_add, EReal.coe_add]
    have z : ((-f : ℝ) : EReal) + (f : EReal) = 0 := by rw [← EReal.coe_add]; simp
    calc _ = (a : EReal) + ((-b : ℝ) : EReal) + ((-c : ℝ) : EReal) + ((-e : ℝ) : EReal) + 0 + D + B := by abel
      _ = _ := by rw [← z]; abel
  rw [comm _ _ _ _ (∑ t, coefR (strength t) (∑ k, h k * d t k) (∑ k, h k * h k) * d t i)]
  congr 3
  rw [Fin.sum_univ_three, Fin.sum_univ_three, show strength 0 = tenth from rfl, show strength 1 = tenth from rfl,
    show strength 2 = twentieth from rfl]
  ring

end Cert.Collapse

end
-- ==== Proof.Clamp.lean ====
/- The clamp: a row times the factor the kernel carries is the reference's clamped row, and is finite whatever the row. -/
module

public import proofs.«01_k».proof.Proof.Step

@[expose] public section

noncomputable section

namespace Cert.Collapse

open Idealize.ShloMosaic

/-- The reference's clamp is the product with the kernel's factor. -/
theorem clamp_eq (x : Row) : clamp x = fun i => x i * scale x := by
  funext i
  unfold clamp scale
  split
  · rfl
  · rw [mul_one]

/-- A square is at least zero. -/
theorem sq_nonneg' (a : EReal) : 0 ≤ a * a := by
  induction a with
  | bot => simp
  | top => simp
  | coe a => rw [← EReal.coe_mul]; exact EReal.coe_nonneg.mpr (mul_self_nonneg a)

/-- A row whose squared norm is not infinite is finite. -/
theorem finite_of_dot (x : Row) (h : dot x x ≠ ⊤) (i : Fin 256) : x i ≠ ⊤ ∧ x i ≠ ⊥ := by
  have hle : x i * x i ≤ dot x x :=
    Finset.single_le_sum (f := fun k => x k * x k) (fun k _ => sq_nonneg' (x k)) (Finset.mem_univ i)
  constructor
  · intro hx; rw [hx, EReal.top_mul_top] at hle; exact h (top_le_iff.mp hle)
  · intro hx; rw [hx, EReal.bot_mul_bot] at hle; exact h (top_le_iff.mp hle)

/-- The factor is a nonnegative real and the row it clamps is finite: of an infinite row the norm is infinite and the
    factor zero, of a finite one every quantity is real. -/
theorem scale_finite (x : Row) : ∃ s : ℝ, 0 ≤ s ∧ scale x = (s : EReal) ∧ ∃ h : Fin 256 → ℝ, ∀ i, x i * (s : EReal) = (h i : EReal) := by
  by_cases hx : dot x x = ⊤
  · refine ⟨0, le_rfl, ?_, fun _ => 0, fun i => by simp⟩
    have h10 : Ideal.cmp .ogt (⊤ : EReal) ((10 : ℝ) : EReal) = 1#1 := by simp [Ideal.cmp]
    rw [scale, hx, Ideal.sqrt_top, if_pos h10, cut, EReal.top_add_coe]
    simp [Ideal.div]
  · have hf := finite_of_dot x hx
    have hr : ∀ i, x i = ((x i).toReal : EReal) := fun i => (EReal.coe_toReal (hf i).1 (hf i).2).symm
    have hd : dot x x = ((∑ k, (x k).toReal * (x k).toReal : ℝ) : EReal) := by
      rw [← dot_coe]; simp only [← hr]
    have hq : 0 ≤ ∑ k, (x k).toReal * (x k).toReal := Finset.sum_nonneg fun k _ => mul_self_nonneg _
    have hs : ∃ s : ℝ, 0 ≤ s ∧ scale x = (s : EReal) := by
      unfold scale
      split
      · have hp : 0 < Real.sqrt (∑ k, (x k).toReal * (x k).toReal) + slack := add_pos_of_nonneg_of_pos (Real.sqrt_nonneg _) slack_pos
        refine ⟨10 * (1 / (Real.sqrt (∑ k, (x k).toReal * (x k).toReal) + slack)), by positivity, ?_⟩
        rw [cut, hd, Ideal.sqrt_coe, if_neg (not_lt.mpr hq), ← EReal.coe_add, Ideal.div_coe hp.ne', EReal.coe_mul]
      · exact ⟨1, zero_le_one, rfl⟩
    obtain ⟨s, h0, he⟩ := hs
    exact ⟨s, h0, he, fun i => (x i).toReal * s, fun i => by rw [EReal.coe_mul, ← hr]⟩

/-- A direction made of an anchor whose norm is finite and at least the floor is finite and of length one. -/
theorem unit_anchor (a : Row) (hlo : (flr : EReal) ≤ Ideal.sqrt (dot a a)) (hhi : Ideal.sqrt (dot a a) < ⊤) :
    ∃ d : Fin 256 → ℝ, unit a = (fun i => (d i : EReal)) ∧ ∑ k, d k * d k = 1 := by
  have hx : dot a a ≠ ⊤ := fun h => by rw [h, Ideal.sqrt_top] at hhi; exact lt_irrefl _ hhi
  have hf := finite_of_dot a hx
  have hr : a = fun i => ((a i).toReal : EReal) := funext fun i => (EReal.coe_toReal (hf i).1 (hf i).2).symm
  obtain ⟨b, hr⟩ : ∃ b : Fin 256 → ℝ, a = fun i => (b i : EReal) := ⟨_, hr⟩
  subst hr
  have hq : 0 ≤ ∑ k, b k * b k := Finset.sum_nonneg fun k _ => mul_self_nonneg _
  rw [dot_coe, Ideal.sqrt_coe, if_neg (not_lt.mpr hq), EReal.coe_le_coe_iff] at hlo
  refine ⟨fun i => b i * (Real.sqrt (max (∑ k, b k * b k) (flr * flr)))⁻¹, funext fun i => unit_coe b i, ?_⟩
  have hpos : 0 < Real.sqrt (∑ k, b k * b k) := flr_pos.trans_le hlo
  rw [sqrt_floor _ hq, max_eq_left hlo]
  have hs : ∀ k, b k * (Real.sqrt (∑ k, b k * b k))⁻¹ * (b k * (Real.sqrt (∑ k, b k * b k))⁻¹) = b k * b k * (∑ k, b k * b k)⁻¹ := fun k => by
    rw [mul_mul_mul_comm, ← mul_inv, Real.mul_self_sqrt hq]
  rw [Finset.sum_congr rfl fun k _ => hs k, ← Finset.sum_mul, mul_inv_cancel₀ (Real.sqrt_pos.mp hpos).ne']

end Cert.Collapse

end
-- ==== Proof.Infinite.lean ====
/- A row with an infinite entry: its step and its layer both have an infinite norm, and both clamp to zero. -/
module

public import proofs.«01_k».proof.Proof.Step
public import proofs.«01_k».proof.Proof.Clamp

@[expose] public section

noncomputable section

namespace Cert.Collapse

open Idealize.ShloMosaic

/-- Either infinity. -/
def Endless (x : EReal) : Prop := x = ⊤ ∨ x = ⊥

/-- An infinity plus anything is an infinity. -/
theorem endless_add {x : EReal} (h : Endless x) (y : EReal) : Endless (x + y) := by
  rcases h with rfl | rfl
  · induction y with
    | bot => exact .inr (EReal.add_bot _)
    | top => exact .inl rfl
    | coe y => exact .inl (EReal.top_add_coe y)
  · exact .inr (EReal.bot_add _)

/-- An infinity less anything is an infinity. -/
theorem endless_sub {x : EReal} (h : Endless x) (y : EReal) : Endless (x - y) := endless_add h (-y)

/-- An infinity times a nonzero real is an infinity. -/
theorem endless_mul {x : EReal} (h : Endless x) (m : ℝ) (hm : m ≠ 0) : Endless (x * (m : EReal)) := by
  rcases h with rfl | rfl <;> rcases lt_or_gt_of_ne hm with hm | hm
  · exact .inr (EReal.top_mul_coe_of_neg hm)
  · exact .inl (EReal.top_mul_coe_of_pos hm)
  · exact .inl (EReal.bot_mul_coe_of_neg hm)
  · exact .inr (EReal.bot_mul_coe_of_pos hm)

/-- A row with an infinite entry has an infinite squared norm. -/
theorem dot_endless (x : Row) (i : Fin 256) (h : Endless (x i)) : dot x x = ⊤ := by
  by_contra hx
  have hf := finite_of_dot x hx i
  exact h.elim hf.1 hf.2

/-- A row of infinite norm clamps to zero. -/
theorem clamp_endless (x : Row) (i : Fin 256) (h : Endless (x i)) : clamp x = fun _ => 0 := by
  have h10 : Ideal.cmp .ogt (⊤ : EReal) ((10 : ℝ) : EReal) = 1#1 := by simp [Ideal.cmp]
  have hs : scale x = 0 := by
    rw [scale, dot_endless x i h, Ideal.sqrt_top, if_pos h10, cut, EReal.top_add_coe]
    simp [Ideal.div]
  rw [clamp_eq, hs]
  exact funext fun i => mul_zero _

/-- A coefficient at an infinite squared norm is zero, or, where the distance's two infinities meet, the strength over the
    floor. -/
theorem coef_endless (c : ℝ) (a : EReal) : coef c a ⊤ = ((0 : ℝ) : EReal) ∨ coef c a ⊤ = ((c * rest * flr⁻¹ : ℝ) : EReal) := by
  have hz : Ideal.rsqrt (max ⊤ ((flr * flr : ℝ) : EReal)) = 0 := by rw [max_eq_left le_top]; rfl
  rw [coef, hz, mul_zero, sub_zero]
  have hgo : ∀ q : EReal, q = ⊤ → (c : EReal) * (rest : EReal) * Ideal.rsqrt (max q ((flr * flr : ℝ) : EReal)) = ((0 : ℝ) : EReal) := by
    rintro q rfl
    rw [hz, mul_zero]; rfl
  induction a with
  | bot =>
    left
    apply hgo
    rw [EReal.coe_mul_bot_of_pos two_pos]
    rfl
  | coe a =>
    left
    apply hgo
    rw [← EReal.coe_mul, EReal.top_sub_coe, ← EReal.coe_one, EReal.top_add_coe]
  | top =>
    right
    rw [EReal.coe_mul_top_of_pos two_pos]
    have e : (⊤ : EReal) - ⊤ + 1 = ⊥ := by
      rw [sub_eq_add_neg, EReal.neg_top, EReal.add_bot, EReal.bot_add]
    have hp : 0 < flr * flr := mul_pos flr_pos flr_pos
    rw [e, max_eq_right bot_le]
    have hr : Ideal.rsqrt ((flr * flr : ℝ) : EReal) = ((flr⁻¹ : ℝ) : EReal) := by
      change (if flr * flr < 0 then (⊥ : EReal) else if flr * flr = 0 then ⊤ else ((Real.sqrt (flr * flr))⁻¹ : ℝ)) = _
      rw [if_neg (not_lt.mpr hp.le), if_neg hp.ne', Real.sqrt_mul_self flr_pos.le]
    rw [hr, ← EReal.coe_mul, ← EReal.coe_mul]

/-- What is left of the row's own weight at an infinite squared norm is a nonzero real. -/
theorem weight_endless (a : Fin 3 → EReal) : ∃ m : ℝ, m ≠ 0 ∧ 1 - ∑ t, coef (strength t) (a t) ⊤ = (m : EReal) := by
  have h : ∀ t, ∃ v : ℝ, (v = 0 ∨ 1 < v) ∧ coef (strength t) (a t) ⊤ = (v : EReal) := fun t => by
    rcases coef_endless (strength t) (a t) with e | e
    · exact ⟨_, .inl rfl, e⟩
    · refine ⟨_, .inr ?_, e⟩
      fin_cases t <;> norm_num [strength, tenth, twentieth, rest, flr]
  choose v hv he using h
  refine ⟨1 - ∑ t, v t, ?_, ?_⟩
  · rw [Fin.sum_univ_three]
    rcases hv 0 with h0 | h0 <;> rcases hv 1 with h1 | h1 <;> rcases hv 2 with h2 | h2 <;> intro h <;> linarith
  · simp only [he, coe_sum]
    rw [← EReal.coe_one, ← EReal.coe_sub]

variable (W1 : Fin 256 → Row) (b1 : Row) (W2 : Fin 256 → Row) (b2 : Row)

/-- The step of a row with an infinite entry keeps that entry infinite. -/
theorem step_endless (u : Fin 3 → Row) (g : Row) (i : Fin 256) (h : Endless (g i)) : Endless (step W1 b1 W2 b2 u g 1 i) := by
  obtain ⟨m, hm, e⟩ := weight_endless fun t => dot g (u t) * 1
  have e : 1 - ∑ t, coefs u g 1 t = (m : EReal) := by
    simp only [coefs, dot_endless g i h, mul_one] at e ⊢
    exact e
  rw [step, e, one_mul]
  exact endless_add (endless_add (endless_mul h m hm) _) _

/-- The layer before its clamp of a row with an infinite entry keeps that entry infinite. -/
theorem refPre_endless (d0 d1 d2 : Row) (g : Row) (i : Fin 256) (h : Endless (g i)) : Endless (refPre W1 b1 W2 b2 d0 d1 d2 g i) :=
  endless_sub (endless_sub (endless_sub (endless_add h _) _) _) _

/-- A row with an infinite entry: the step and the layer clamp to the same row, zero. -/
theorem clamp_step_endless (u : Fin 3 → Row) (g : Row) (i : Fin 256) (h : Endless (g i)) :
    clamp (step W1 b1 W2 b2 u g 1) = clamp (refPre W1 b1 W2 b2 (u 0) (u 1) (u 2) g) := by
  rw [clamp_endless _ i (step_endless W1 b1 W2 b2 u g i h), clamp_endless _ i (refPre_endless W1 b1 W2 b2 _ _ _ g i h)]

end Cert.Collapse

end
-- ==== Proof.Chain.lean ====
/- Four steps of a row: carrying a row with its factor is clamping it, so the steps are the layers. -/
module

public import proofs.«01_k».proof.Proof.Step
public import proofs.«01_k».proof.Proof.Clamp
public import proofs.«01_k».proof.Proof.Infinite

@[expose] public section

noncomputable section

namespace Cert.Collapse

variable (W1 : Fin 256 → Row) (b1 : Row) (W2 : Fin 256 → Row) (b2 : Row)

/-- A step from a carried row is the layer before its clamp, of the row carried, when that row and the factor are real
    and the directions have norm one. -/
theorem step_of_row (u : Fin 3 → Row)
    (hu : ∀ t, ∃ d : Fin 256 → ℝ, u t = (fun i => (d i : EReal)) ∧ ∑ k, d k * d k = 1)
    (g : Row) (s : ℝ) (hs : 0 ≤ s) (h : Fin 256 → ℝ) (hg : ∀ i, g i * (s : EReal) = (h i : EReal)) :
    step W1 b1 W2 b2 u g (s : EReal) = refPre W1 b1 W2 b2 (u 0) (u 1) (u 2) (fun i => g i * (s : EReal)) := by
  choose d hd hn using hu
  obtain rfl : u = fun t i => (d t i : EReal) := funext hd
  rw [step_eq_refPre W1 b1 W2 b2 d hn g s hs h hg]
  exact congrArg _ (funext fun i => (hg i).symm)

/-- A step from a row carried with its own factor is the layer before its clamp, of the clamped row. -/
theorem step_of_clamp (u : Fin 3 → Row)
    (hu : ∀ t, ∃ d : Fin 256 → ℝ, u t = (fun i => (d i : EReal)) ∧ ∑ k, d k * d k = 1) (g : Row) :
    step W1 b1 W2 b2 u g (scale g) = refPre W1 b1 W2 b2 (u 0) (u 1) (u 2) (clamp g) := by
  obtain ⟨s, hs, he, h, hg⟩ := scale_finite g
  rw [clamp_eq, he]
  exact step_of_row W1 b1 W2 b2 u hu g s hs h hg

/-- A step from a finite row carried with the factor one is the layer before its clamp, of the row. -/
theorem step_of_finite (u : Fin 3 → Row)
    (hu : ∀ t, ∃ d : Fin 256 → ℝ, u t = (fun i => (d i : EReal)) ∧ ∑ k, d k * d k = 1)
    (g : Row) (hg : ∃ h : Fin 256 → ℝ, g = fun i => (h i : EReal)) :
    step W1 b1 W2 b2 u g 1 = refPre W1 b1 W2 b2 (u 0) (u 1) (u 2) g := by
  obtain ⟨h, rfl⟩ := hg
  have e := step_of_row W1 b1 W2 b2 u hu (fun i => (h i : EReal)) 1 zero_le_one h (fun i => by rw [EReal.coe_one, mul_one])
  simpa only [EReal.coe_one, mul_one] using e

/-- A step from any row carried with the factor one clamps to the layer of that row: a row that is not finite clamps to zero
    both ways. -/
theorem clamp_step_first (u : Fin 3 → Row)
    (hu : ∀ t, ∃ d : Fin 256 → ℝ, u t = (fun i => (d i : EReal)) ∧ ∑ k, d k * d k = 1) (g : Row) :
    clamp (step W1 b1 W2 b2 u g 1) = clamp (refPre W1 b1 W2 b2 (u 0) (u 1) (u 2) g) := by
  by_cases h : ∃ i, Endless (g i)
  · obtain ⟨i, h⟩ := h
    exact clamp_step_endless W1 b1 W2 b2 u g i h
  · refine congrArg clamp (step_of_finite W1 b1 W2 b2 u hu g ⟨fun i => (g i).toReal, funext fun i => ?_⟩)
    exact (EReal.coe_toReal (fun e => h ⟨i, .inl e⟩) (fun e => h ⟨i, .inr e⟩)).symm

end Cert.Collapse

end
-- ==== Proof.RefRow.lean ====
/- The reference program read at an index: each of its four layers is the row's layer of the previous state. -/
module

public import proofs.«01_k».proof.Proof.Clamp
public import proofs.«01_k».proof.Proof.Gen.ReferenceIdeal.Read
public import Idealize.ShloMosaic.Lib.Pointwise

@[expose] public section

noncomputable section

namespace Cert.Collapse

open Cert.ReferenceIdeal Cert.ReferenceIdeal.Gen Cert.ReferenceIdeal.Read Idealize.ShloMosaic

/-- Row `r` of an array of 256 columns. -/
abbrev row {n : Nat} (x : (⟨2, ![n, 256]⟩ : Shape).Idx → EReal) (r : Fin n) : Row := fun k => x (ix2 r k)

/-- A vector of 256 entries as a row. -/
abbrev vec (x : (⟨1, ![256]⟩ : Shape).Idx → EReal) : Row := fun k => x (ix1 k)

variable (x0 : (⟨S32768x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 x5 x6 x7 : (⟨S256, .f32⟩ : BufTy).Contents (Elt Ideal))

/-- The reference's first direction is its anchor over its norm. -/
theorem ref_dir0 (c : Fin 256) : val_main_v4 (F := Ideal) x5 (ix1 c) = unit (vec x5) c := by
  pointwise [val_main_v4, val_main_v3, val_main_v2, val_main_v1, val_main_cst, val_main_v0, val_main_call0_v2,
    val_main_call0_v1, val_main_call0_v0, val_main_call0_cst, bits_flr]
  rfl

/-- The reference's second direction is its anchor over its norm. -/
theorem ref_dir1 (c : Fin 256) : val_main_v9 (F := Ideal) x6 (ix1 c) = unit (vec x6) c := by
  pointwise [val_main_v9, val_main_v8, val_main_v7, val_main_v6, val_main_cst_0, val_main_v5, val_main_call1_v2,
    val_main_call1_v1, val_main_call1_v0, val_main_call1_cst, bits_flr]
  rfl

/-- The reference's third direction is its anchor over its norm. -/
theorem ref_dir2 (c : Fin 256) : val_main_v14 (F := Ideal) x7 (ix1 c) = unit (vec x7) c := by
  pointwise [val_main_v14, val_main_v13, val_main_v12, val_main_v11, val_main_cst_1, val_main_v10, val_main_call2_v2,
    val_main_call2_v1, val_main_call2_v0, val_main_call2_cst, bits_flr]
  rfl

/-- The reference's normalized state. -/
theorem ref_unit (r : Fin 32768) (c : Fin 256) : val_main_v19 (F := Ideal) x0 (ix2 r c) = unit (row x0 r) c := by
  pointwise [val_main_v19, val_main_v18, val_main_v17, val_main_v16, val_main_cst_2, val_main_v15, val_main_call3_v2,
    val_main_call3_v1, val_main_call3_v0, val_main_call3_cst, bits_flr]
  rfl

/-- The reference's update by the two weight matrices, its bias added. -/
theorem ref_delta (r : Fin 32768) (c : Fin 256) : val_main_v48 (F := Ideal) x0 x1 x2 x3 x4 (ix2 r c)
    = delta (fun j => dot (row x0 r) (row x1 j)) (vec x2) (row x3) c + vec x4 c := by
  pointwise [val_main_v48, val_main_v47, val_main_v46, val_main_v45, val_main_v44, val_main_v43, val_main_v42, val_main_v41,
    val_main_v40, val_main_v39, val_main_v38]
  rfl

/-- The reference's pull along the first direction. -/
theorem ref_pull0 (r : Fin 32768) (c : Fin 256) : val_main_v78 (F := Ideal) x0 x5 (ix2 r c)
    = pull tenth (row x0 r) (unit (vec x5)) c := by
  pointwise [val_main_v78, val_main_v77, val_main_v76, val_main_v75, val_main_v74, val_main_v56, val_main_v55, val_main_v54, val_main_v53, val_main_v52, val_main_v51, val_main_v50, val_main_v49, val_main_v33, val_main_v32, val_main_v23, val_main_v22, val_main_v21, val_main_v20,
    val_main_cst_3, val_main_cst_6, val_main_cst_9, val_main_cst_12, val_main_call4_v2, val_main_call4_v1, val_main_call4_v0, val_main_call4_cst,
    ref_dir0, ref_unit, bits_flr, bits_rest, bits_tenth]
  rfl

/-- The reference's pull along the second direction. -/
theorem ref_pull1 (r : Fin 32768) (c : Fin 256) : val_main_v84 (F := Ideal) x0 x6 (ix2 r c)
    = pull tenth (row x0 r) (unit (vec x6)) c := by
  pointwise [val_main_v84, val_main_v83, val_main_v82, val_main_v81, val_main_v80, val_main_v64, val_main_v63, val_main_v62, val_main_v61, val_main_v60, val_main_v59, val_main_v58, val_main_v57, val_main_v35, val_main_v34, val_main_v27, val_main_v26, val_main_v25, val_main_v24,
    val_main_cst_4, val_main_cst_7, val_main_cst_10, val_main_cst_13, val_main_call5_v2, val_main_call5_v1, val_main_call5_v0, val_main_call5_cst,
    ref_dir1, ref_unit, bits_flr, bits_rest, bits_tenth]
  rfl

/-- The reference's pull along the third direction. -/
theorem ref_pull2 (r : Fin 32768) (c : Fin 256) : val_main_v90 (F := Ideal) x0 x7 (ix2 r c)
    = pull twentieth (row x0 r) (unit (vec x7)) c := by
  pointwise [val_main_v90, val_main_v89, val_main_v88, val_main_v87, val_main_v86, val_main_v72, val_main_v71, val_main_v70, val_main_v69, val_main_v68, val_main_v67, val_main_v66, val_main_v65, val_main_v37, val_main_v36, val_main_v31, val_main_v30, val_main_v29, val_main_v28,
    val_main_cst_5, val_main_cst_8, val_main_cst_11, val_main_cst_14, val_main_call6_v2, val_main_call6_v1, val_main_call6_v0, val_main_call6_cst,
    ref_dir2, ref_unit, bits_flr, bits_rest, bits_twentieth]
  rfl

/-- The reference's first layer before the clamp. -/
theorem ref_pre (r : Fin 32768) (c : Fin 256) : val_main_v91 (F := Ideal) x0 x1 x2 x3 x4 x5 x6 x7 (ix2 r c)
    = refPre (row x1) (vec x2) (row x3) (vec x4) (unit (vec x5)) (unit (vec x6)) (unit (vec x7)) (row x0 r) c := by
  pointwise [val_main_v91, val_main_v85, val_main_v79, val_main_v73, ref_pull0, ref_pull1, ref_pull2, ref_delta]
  rfl

/-- One layer of the reference on a row. -/
abbrev layer (x1 : (⟨S256x256, .f32⟩ : BufTy).Contents (Elt Ideal)) (x2 : (⟨S256, .f32⟩ : BufTy).Contents (Elt Ideal)) (x3 : (⟨S256x256, .f32⟩ : BufTy).Contents (Elt Ideal)) (x4 x5 x6 x7 : (⟨S256, .f32⟩ : BufTy).Contents (Elt Ideal)) (h : Row) : Row :=
  clamp (refPre (row x1) (vec x2) (row x3) (vec x4) (unit (vec x5)) (unit (vec x6)) (unit (vec x7)) h)

/-- The clamp, its test read as an order. -/
theorem clamp_lt (x : Row) (i : Fin 256) : clamp x i
    = if ((10 : ℝ) : EReal) < Ideal.sqrt (dot x x) then x i * cut (Ideal.sqrt (dot x x)) else x i :=
  if_congr (Ideal.cmp_ogt_eq_one _ _) rfl rfl

/-- The reference's first layer. -/
theorem ref_layer (r : Fin 32768) : row (val_main_v101 (F := Ideal) x0 x1 x2 x3 x4 x5 x6 x7) r
    = layer x1 x2 x3 x4 x5 x6 x7 (row x0 r) := by
  funext c
  pointwise [row, val_main_v101, val_main_call8_v0, val_main_v100, val_main_v99, val_main_v98, val_main_v97, val_main_cst_17, val_main_v96,
    val_main_v95, val_main_cst_16, val_main_v94, val_main_v93, val_main_cst_15, val_main_v92, val_main_call7_v2, val_main_call7_v1,
    val_main_call7_v0, val_main_call7_cst, ref_pre, bits_ten, bits_slack, layer, clamp_lt]
  rfl

/-- The later layers repeat the first. -/
theorem ref_second : val_main_v188 (F := Ideal) x0 x1 x2 x3 x4 x5 x6 x7
    = val_main_v101 (F := Ideal) (val_main_v101 (F := Ideal) x0 x1 x2 x3 x4 x5 x6 x7) x1 x2 x3 x4 x5 x6 x7 := rfl

/-- The third layer is the first one from the second's result. -/
theorem ref_third : val_main_v275 (F := Ideal) x0 x1 x2 x3 x4 x5 x6 x7
    = val_main_v101 (F := Ideal) (val_main_v188 (F := Ideal) x0 x1 x2 x3 x4 x5 x6 x7) x1 x2 x3 x4 x5 x6 x7 := rfl

/-- The fourth layer is the first one from the third's result. -/
theorem ref_fourth : val_main_v362 (F := Ideal) x0 x1 x2 x3 x4 x5 x6 x7
    = val_main_v101 (F := Ideal) (val_main_v275 (F := Ideal) x0 x1 x2 x3 x4 x5 x6 x7) x1 x2 x3 x4 x5 x6 x7 := rfl

/-- THE REFERENCE'S RESULT, row by row: four layers of the row's initial state. -/
theorem ref_result (r : Fin 32768) : row (val_main_v362 (F := Ideal) x0 x1 x2 x3 x4 x5 x6 x7) r
    = layer x1 x2 x3 x4 x5 x6 x7 (layer x1 x2 x3 x4 x5 x6 x7 (layer x1 x2 x3 x4 x5 x6 x7 (layer x1 x2 x3 x4 x5 x6 x7 (row x0 r)))) := by
  rw [ref_fourth, ref_layer, ref_third, ref_layer, ref_second, ref_layer, ref_layer]

end Cert.Collapse

end
-- ==== Proof.Precondition.lean ====
/- What the precondition says: every anchor has a finite norm at least the floor. -/
module

public import proofs.«01_k».proof.Defs
public import proofs.«01_k».proof.Proof.RefRow
public import Idealize.ShloMosaic.Lib.Affine
public import Idealize.ShloMosaic.Lib.IdealHost
public import Idealize.ShloMosaic.Lib.Pointwise
public import Idealize.ShloMosaic.Lib.Decide

@[expose] public section

noncomputable section

/-- The shape facts the precondition's function states. -/
instance Cert.Collapse.pre_facts : Cert.Pre_anchored.Facts where
  h_S_ := by decide
  reducesTo_S256_S_d0 := by decide

namespace Cert.Collapse

open Cert.Pre_anchored Idealize.ShloMosaic

/-- An anchor the precondition admits: its norm at least the floor, and finite. -/
def Anchored (a : Row) : Prop := (flr : EReal) ≤ Ideal.sqrt (dot a a) ∧ Ideal.sqrt (dot a a) < ⊤

/-- A conjunction of two bits that is one has both of them one. -/
theorem both_one {a b : IVec S_ 1} (h : andi a b (fun i => i.elim0) = 1#1) : a (fun i => i.elim0) = 1#1 ∧ b (fun i => i.elim0) = 1#1 :=
  IntOp.andi_eq_one.mp h

/-- The two tests of an anchor's norm, read. -/
theorem anchored_of (a : FVec Ideal S256 .f32)
    (hlo : cmpf .oge (Host.sqrt (Host.reduceAdd (mulf a a) (constant (F := Ideal) S_ .f32 0x00000000#32) Facts.reducesTo_S256_S_d0 Facts.h_S_))
      (constant (F := Ideal) S_ .f32 0x2B8CBCCC#32) (fun i => i.elim0) = 1#1)
    (hhi : cmpf .olt (Host.sqrt (Host.reduceAdd (mulf a a) (constant (F := Ideal) S_ .f32 0x00000000#32) Facts.reducesTo_S256_S_d0 Facts.h_S_))
      (constant (F := Ideal) S_ .f32 0x7F800000#32) (fun i => i.elim0) = 1#1) : Anchored (vec a) := by
  have e : Host.reduceAdd (mulf a a) (constant (F := Ideal) S_ .f32 0x00000000#32) Facts.reducesTo_S256_S_d0 Facts.h_S_ (fun i => i.elim0)
      = dot (vec a) (vec a) := by
    pointwise [bits_zero]
    rfl
  have lo : (flr : EReal) ≤ Ideal.sqrt (Host.reduceAdd (mulf a a) (constant (F := Ideal) S_ .f32 0x00000000#32) Facts.reducesTo_S256_S_d0 Facts.h_S_ (fun i => i.elim0)) := by
    rw [← bits_flr]; exact (Ideal.cmp_oge_eq_one _ _).mp hlo
  have hi : Ideal.sqrt (Host.reduceAdd (mulf a a) (constant (F := Ideal) S_ .f32 0x00000000#32) Facts.reducesTo_S256_S_d0 Facts.h_S_ (fun i => i.elim0)) < ⊤ := by
    rw [← bits_inf]; exact (Ideal.cmp_olt_eq_one _ _).mp hhi
  rw [e] at lo hi
  exact ⟨lo, hi⟩

/-- The precondition, read. -/
theorem pre_read (x0 : FVec Ideal S32768x256 .f32) (x1 x3 : FVec Ideal S256x256 .f32) (x2 x4 x5 x6 x7 : FVec Ideal S256 .f32)
    (h : fn x0 x1 x2 x3 x4 x5 x6 x7 = fun _ => 1#1) :
    Anchored (vec x5) ∧ Anchored (vec x6) ∧ Anchored (vec x7) := by
  have h := congrFun h (fun i => i.elim0)
  obtain ⟨h, h7⟩ := both_one h
  obtain ⟨h5, h6⟩ := both_one h
  exact ⟨anchored_of x5 (both_one h5).1 (both_one h5).2, anchored_of x6 (both_one h6).1 (both_one h6).2,
    anchored_of x7 (both_one h7).1 (both_one h7).2⟩

end Cert.Collapse

end
-- ==== Proof.KernelRow.lean ====
/- The kernel's block read at an index: each of its four steps is the row's step from the previous carried row. -/
module

public import proofs.«01_k».proof.Proof.RefRow
public import proofs.«01_k».proof.Proof.Gen.KernelIdeal.Frame
public import Idealize.ShloMosaic.Lib.Pointwise
public import Idealize.ShloMosaic.Lib.Pipeline.Value

@[expose] public section

noncomputable section

namespace Cert.Collapse

open Cert.KernelIdeal Cert.KernelIdeal.Gen Idealize.ShloMosaic

/-- The carried factor, its test read as an order. -/
theorem scale_lt (x : Row) : scale x
    = if ((10 : ℝ) : EReal) < Ideal.sqrt (dot x x) then cut (Ideal.sqrt (dot x x)) else 1 :=
  if_congr (Ideal.cmp_ogt_eq_one _ _) rfl rfl

/-- A corner at zero, written out. -/
theorem corner : (![0, 0] : Fin 2 → Nat) = fun _ => 0 := by decide

/-- The kernel's directions are the stacked anchors over their norms. -/
theorem k_dir (v3 : Vec Ideal S3x256 .f32) (t : Fin 3) (c : Fin 256) : k0_pay3 v3 (ix2 t c) = unit (row v3 t) c := by
  pointwise [k0_pay3, bits_flr]
  rfl

/-- The kernel's strengths, picked lane by lane. -/
theorem k_strength (t : Fin 3) : k0_pay5 (F := Ideal) (ix2 0 t) = (strength t : EReal) := by
  fin_cases t <;> pointwise [k0_pay5, bits_tenth, bits_twentieth, strength] <;> rfl

/-- The first three rows of the stacked addends are the directions. -/
theorem k_addend (v3 : Vec Ideal S3x256 .f32) (v13 : Vec Ideal S1x256 .f32) (t : Fin 3) (h : t.val < 4) (c : Fin 256) :
    k0_pay4 v3 v13 (ix2 ⟨t.val, h⟩ c) = unit (row v3 t) c := by
  rw [← k_dir]
  exact concatenate_pair_apply_left (s₁ := S3x256) (s₂ := S1x256) (t := S4x256) 0 _ _ concatenates_S3x256_S1x256_S4x256_d0 (ix2 ⟨t.val, h⟩ c) rfl (ix2 t c) (fun b => match b with | 0 => rfl | 1 => rfl)

/-- The last row of the stacked addends is the second bias. -/
theorem k_addend_last (v3 : Vec Ideal S3x256 .f32) (v13 : Vec Ideal S1x256 .f32) (c : Fin 256) :
    k0_pay4 v3 v13 (ix2 3 c) = row v13 0 c := by
  refine (concatenate_pair_apply_right (s₁ := S3x256) (s₂ := S1x256) (t := S4x256) 0 _ _ concatenates_S3x256_S1x256_S4x256_d0 (ix2 3 c) rfl rfl (ix2 0 c) (fun b hb => match b, hb with | 0, hb => absurd rfl hb | 1, _ => rfl) rfl).trans ?_
  exact congrFun (shapeCast_self _ _) _

variable (x0 : Vec Ideal S4096x256 .f32) (x1 : Vec Ideal S256x256 .bf16) (x2 : Vec Ideal S1x256 .f32) (x3 : Vec Ideal S256x256 .bf16) (x4 : Vec Ideal S1x256 .f32) (x5 : Vec Ideal S3x256 .f32)

/-- The stacked addends over the input blocks: directions, then the bias. -/
theorem k40 (t : Fin 3) (h : t.val < 4) (c : Fin 256) : k0_pay40 x0 x1 x2 x3 x4 x5 (ix2 ⟨t.val, h⟩ c) = unit (row x5 t) c := by
  rw [k0_pay40, View.ld_unit_zero corner, View.ld_unit_zero corner, k_addend]

/-- The fourth row the kernel stacks under the directions is the second bias. -/
theorem k40_last (c : Fin 256) : k0_pay40 x0 x1 x2 x3 x4 x5 (ix2 3 c) = row x4 0 c := by
  rw [k0_pay40, View.ld_unit_zero corner, View.ld_unit_zero corner, k_addend_last]

/-- The strengths, laid out by lane. -/
theorem k41 (t : Fin 3) : k0_pay41 x0 x1 x2 x3 x4 x5 (ix2 0 t) = (strength t : EReal) := k_strength t

/-- The directions the kernel's later steps multiply by. -/
theorem k42 (t : Fin 3) (c : Fin 256) : k0_pay42 x0 x1 x2 x3 x4 x5 (ix2 t c) = unit (row x5 t) c := by
  rw [k0_pay42, View.ld_unit_zero corner]
  pointwise [k0_pay6, k_dir]

/-- The first bias, as loaded. -/
theorem k39 (c : Fin 256) : k0_pay39 x0 x1 x2 x3 x4 x5 (ix2 0 c) = row x2 0 c := by
  rw [k0_pay39, View.ld_unit_zero corner]
  pointwise [k0_pay2]

/-- One step of the kernel on a row, from its blocks. -/
abbrev kstep (x1 : Vec Ideal S256x256 .bf16) (x2 : Vec Ideal S1x256 .f32) (x3 : Vec Ideal S256x256 .bf16) (x4 : Vec Ideal S1x256 .f32) (x5 : Vec Ideal S3x256 .f32) (g : Row) (s : EReal) : Row :=
  step (row x1) (row x2 0) (row x3) (row x4 0) (fun t => unit (row x5 t)) g s

/-- The row the kernel carries after its first step. -/
def carried1 (x0 : Vec Ideal S4096x256 .f32) (x1 : Vec Ideal S256x256 .bf16) (x2 : Vec Ideal S1x256 .f32) (x3 : Vec Ideal S256x256 .bf16) (x4 : Vec Ideal S1x256 .f32) (x5 : Vec Ideal S3x256 .f32) (r : Fin 4096) : Row := kstep x1 x2 x3 x4 x5 (row x0 r) 1

/-- The row the kernel carries after its second step. -/
def carried2 (x0 : Vec Ideal S4096x256 .f32) (x1 : Vec Ideal S256x256 .bf16) (x2 : Vec Ideal S1x256 .f32) (x3 : Vec Ideal S256x256 .bf16) (x4 : Vec Ideal S1x256 .f32) (x5 : Vec Ideal S3x256 .f32) (r : Fin 4096) : Row :=
  kstep x1 x2 x3 x4 x5 (carried1 x0 x1 x2 x3 x4 x5 r) (scale (carried1 x0 x1 x2 x3 x4 x5 r))

/-- The row the kernel carries after its third step. -/
def carried3 (x0 : Vec Ideal S4096x256 .f32) (x1 : Vec Ideal S256x256 .bf16) (x2 : Vec Ideal S1x256 .f32) (x3 : Vec Ideal S256x256 .bf16) (x4 : Vec Ideal S1x256 .f32) (x5 : Vec Ideal S3x256 .f32) (r : Fin 4096) : Row :=
  kstep x1 x2 x3 x4 x5 (carried2 x0 x1 x2 x3 x4 x5 r) (scale (carried2 x0 x1 x2 x3 x4 x5 r))

/-- The row the kernel carries after its fourth step. -/
def carried4 (x0 : Vec Ideal S4096x256 .f32) (x1 : Vec Ideal S256x256 .bf16) (x2 : Vec Ideal S1x256 .f32) (x3 : Vec Ideal S256x256 .bf16) (x4 : Vec Ideal S1x256 .f32) (x5 : Vec Ideal S3x256 .f32) (r : Fin 4096) : Row :=
  kstep x1 x2 x3 x4 x5 (carried3 x0 x1 x2 x3 x4 x5 r) (scale (carried3 x0 x1 x2 x3 x4 x5 r))

/-! ## The first step -/

/-- The squared norm of the row loaded. -/
theorem k43 (r : Fin 4096) : k0_pay43 x0 x1 x2 x3 x4 x5 (ix2 r 0) = dot (row x0 r) (row x0 r) := by
  rw [k0_pay43, View.ld_unit_zero corner]
  pointwise [k0_pay7]
  rfl

/-- The row's products with the directions. -/
theorem k45 (r : Fin 4096) (t : Fin 3) : k0_pay45 x0 x1 x2 x3 x4 x5 (ix2 r t) = dot (row x0 r) (unit (row x5 t)) := by
  rw [k0_pay45, View.ld_unit_zero corner, View.ld_unit_zero corner]
  pointwise [k0_pay9, k0_pay8, k0_pay6, k_dir]
  rfl

/-- What each anchor's alignment lacks, in the first step. -/
theorem k46 (r : Fin 4096) (t : Fin 3) : k0_pay46 x0 x1 x2 x3 x4 x5 (ix2 r t)
    = (rest : EReal) - dot (row x0 r) (unit (row x5 t)) * Ideal.rsqrt (max (dot (row x0 r) (row x0 r)) ((flr * flr : ℝ) : EReal)) := by
  have h9 := k45 x0 x1 x2 x3 x4 x5 r t
  have h7 := k43 x0 x1 x2 x3 x4 x5 r
  rw [k0_pay45, View.ld_unit_zero corner, View.ld_unit_zero corner] at h9
  rw [k0_pay43, View.ld_unit_zero corner] at h7
  rw [k0_pay46, View.ld_unit_zero corner, View.ld_unit_zero corner]
  pointwise [k0_pay10, h9, h7, bits_rest, named_flr]

/-- The strengths, in the first step. -/
theorem k47 (r : Fin 4096) (t : Fin 3) : k0_pay47 x0 x1 x2 x3 x4 x5 (ix2 r t) = (strength t : EReal) := by
  pointwise [k0_pay47, k0_pay11, k_strength]

/-- The first step: the row itself, its factor one. -/
theorem k48 (r : Fin 4096) (c : Fin 256) : k0_pay48 x0 x1 x2 x3 x4 x5 (ix2 r c) = carried1 x0 x1 x2 x3 x4 x5 r c := by
  rw [k0_pay48, View.ld_unit_zero corner, View.ld_unit_zero corner, View.ld_unit_zero corner]
  pointwise [k0_pay12, k39, k40, k40_last, k43, k0_pay44, k0_pay8, k45, k46, k47, bits_one, bits_two, named_flr,
    carried1, step, coefs, coef, delta, Fin.sum_univ_one]
  rfl

/-! ## The second step -/

/-- The first carried row, in the narrower format: the same row. -/
theorem k49 (r : Fin 4096) (c : Fin 256) : k0_pay49 x0 x1 x2 x3 x4 x5 (ix2 r c) = carried1 x0 x1 x2 x3 x4 x5 r c := k48 x0 x1 x2 x3 x4 x5 r c

/-- Its squared norm. -/
theorem k50 (r : Fin 4096) : k0_pay50 x0 x1 x2 x3 x4 x5 (ix2 r 0) = dot (carried1 x0 x1 x2 x3 x4 x5 r) (carried1 x0 x1 x2 x3 x4 x5 r) := by
  have h : k0_pay50 x0 x1 x2 x3 x4 x5 = k0_pay7 (k0_pay48 x0 x1 x2 x3 x4 x5) := rfl
  rw [h]
  pointwise [k0_pay7, k48]
  rfl

/-- Its factor. -/
theorem k53 (r : Fin 4096) : k0_pay53 x0 x1 x2 x3 x4 x5 (ix2 r 0) = scale (carried1 x0 x1 x2 x3 x4 x5 r) := by
  have h : k0_pay53 x0 x1 x2 x3 x4 x5 = k0_pay18 (cmpf .ogt (sqrt (k0_pay50 x0 x1 x2 x3 x4 x5)) (broadcast S4096x1 (Scalar.ofBits .f32 0x41200000#32)))
      (divf (broadcast S4096x1 (Scalar.ofBits .f32 0x41200000#32))
        (addf (sqrt (k0_pay50 x0 x1 x2 x3 x4 x5)) (broadcast S4096x1 (Scalar.ofBits .f32 0x322BCC77#32)))) := rfl
  rw [h]
  pointwise [k0_pay18, k50, bits_ten, bits_slack, bits_one, scale_lt]
  rfl

/-- Its factor, from the test and the quotient it selects by. -/
theorem k18 (r : Fin 4096) : k0_pay18 (k0_pay51 x0 x1 x2 x3 x4 x5) (k0_pay52 x0 x1 x2 x3 x4 x5) (ix2 r 0) = scale (carried1 x0 x1 x2 x3 x4 x5 r) := k53 x0 x1 x2 x3 x4 x5 r

/-- The coefficients of the second step. -/
theorem k19 (r : Fin 4096) (t : Fin 3) : k0_pay19 (k0_pay41 x0 x1 x2 x3 x4 x5) (k0_pay42 x0 x1 x2 x3 x4 x5) (k0_pay49 x0 x1 x2 x3 x4 x5) (k0_pay50 x0 x1 x2 x3 x4 x5) (k0_pay51 x0 x1 x2 x3 x4 x5) (k0_pay52 x0 x1 x2 x3 x4 x5) (ix2 r t)
    = coefs (fun t => unit (row x5 t)) (carried1 x0 x1 x2 x3 x4 x5 r) (scale (carried1 x0 x1 x2 x3 x4 x5 r)) t := by
  pointwise [k0_pay19, k41, k42, k49, k50, k18, bits_rest, bits_one, bits_two, named_flr]
  rfl

/-- The second step's change by the weights. -/
theorem k54 (r : Fin 4096) (c : Fin 256) : k0_pay54 x0 x1 x2 x3 x4 x5 (ix2 r c)
    = delta (fun j => scale (carried1 x0 x1 x2 x3 x4 x5 r) * dot (carried1 x0 x1 x2 x3 x4 x5 r) (row x1 j)) (row x2 0) (row x3) c := by
  rw [k0_pay54, View.ld_unit_zero corner, View.ld_unit_zero corner]
  pointwise [k0_pay20, k49, k18, k39]
  rfl

/-- The second step's pulls and bias, summed. -/
theorem k55 (r : Fin 4096) (c : Fin 256) : k0_pay55 x0 x1 x2 x3 x4 x5 (ix2 r c)
    = ∑ t, coefs (fun t => unit (row x5 t)) (carried1 x0 x1 x2 x3 x4 x5 r) (scale (carried1 x0 x1 x2 x3 x4 x5 r)) t * unit (row x5 t) c + row x4 0 c := by
  pointwise [k0_pay55, k0_pay21, k19, k40, k40_last, bits_one, Fin.sum_univ_one]

/-- The second step's coefficients, summed. -/
theorem k56 (r : Fin 4096) : k0_pay56 x0 x1 x2 x3 x4 x5 (ix2 r 0)
    = ∑ t, coefs (fun t => unit (row x5 t)) (carried1 x0 x1 x2 x3 x4 x5 r) (scale (carried1 x0 x1 x2 x3 x4 x5 r)) t := by
  pointwise [k0_pay56, k0_pay22, k19]

/-- The second step, from the first's row and its factor. -/
theorem k58 (r : Fin 4096) (c : Fin 256) : k0_pay58 x0 x1 x2 x3 x4 x5 (ix2 r c) = carried2 x0 x1 x2 x3 x4 x5 r c := by
  pointwise [k0_pay58, k0_pay23, k48, k53, k54, k55, k56, bits_one, carried2, step]

/-! ## The third step -/

/-- The second carried row, in the narrower format: the same row. -/
theorem k59 (r : Fin 4096) (c : Fin 256) : k0_pay59 x0 x1 x2 x3 x4 x5 (ix2 r c) = carried2 x0 x1 x2 x3 x4 x5 r c := k58 x0 x1 x2 x3 x4 x5 r c

/-- The second carried row's squared norm. -/
theorem k25 (r : Fin 4096) : k0_pay25 (k0_pay48 x0 x1 x2 x3 x4 x5) (k0_pay53 x0 x1 x2 x3 x4 x5) (k0_pay54 x0 x1 x2 x3 x4 x5) (k0_pay55 x0 x1 x2 x3 x4 x5) (k0_pay56 x0 x1 x2 x3 x4 x5) (Scalar.ofBits .f32 0x3F800000#32) (ix2 r 0)
    = dot (carried2 x0 x1 x2 x3 x4 x5 r) (carried2 x0 x1 x2 x3 x4 x5 r) := by
  have h : k0_pay25 (k0_pay48 x0 x1 x2 x3 x4 x5) (k0_pay53 x0 x1 x2 x3 x4 x5) (k0_pay54 x0 x1 x2 x3 x4 x5) (k0_pay55 x0 x1 x2 x3 x4 x5) (k0_pay56 x0 x1 x2 x3 x4 x5) (Scalar.ofBits .f32 0x3F800000#32)
      = k0_pay7 (k0_pay58 x0 x1 x2 x3 x4 x5) := rfl
  rw [h]
  pointwise [k0_pay7, k58]
  rfl

/-- The factor after the second step, over any carried row. -/
theorem k26 (v71 : FVec Ideal S4096x256 .f32) (v84 : FVec Ideal S4096x1 .f32)
    (v120 v123 : FVec Ideal S4096x256 .f32) (v125 : FVec Ideal S4096x1 .f32) (cst : Ideal .f32) (r : Fin 4096) (g : Row)
    (hq : k0_pay25 v71 v84 v120 v123 v125 cst (ix2 r 0) = dot g g) : k0_pay26 v71 v84 v120 v123 v125 cst (ix2 r 0) = scale g := by
  pointwise [k0_pay26, hq, bits_ten, bits_slack, bits_one, scale_lt]
  rfl

/-- The second carried row's factor. -/
theorem k60 (r : Fin 4096) : k0_pay60 x0 x1 x2 x3 x4 x5 (ix2 r 0) = scale (carried2 x0 x1 x2 x3 x4 x5 r) :=
  k26 _ _ _ _ _ _ r _ (k25 x0 x1 x2 x3 x4 x5 r)

/-- The coefficients of the third step, over any carried row and factor. -/
theorem k27 (v25 : FVec Ideal S1x3 .f32) (v26 : FVec Ideal S3x256 .bf16) (v71 : FVec Ideal S4096x256 .f32) (v84 : FVec Ideal S4096x1 .f32)
    (v120 v123 : FVec Ideal S4096x256 .f32) (v125 : FVec Ideal S4096x1 .f32) (cst : Ideal .f32) (r : Fin 4096) (t : Fin 3) (d : Fin 3 → Row) (g : Row) (s : EReal)
    (h25 : v25 (ix2 0 t) = (strength t : EReal)) (h26 : ∀ k, v26 (ix2 t k) = d t k)
    (hg : ∀ k, k0_pay24 v71 v84 v120 v123 v125 cst (ix2 r k) = g k)
    (hq : k0_pay25 v71 v84 v120 v123 v125 cst (ix2 r 0) = dot g g)
    (hs : k0_pay26 v71 v84 v120 v123 v125 cst (ix2 r 0) = s) :
    k0_pay27 v25 v26 v71 v84 v120 v123 v125 cst (ix2 r t) = coefs d g s t := by
  pointwise [k0_pay27, h25, h26, hg, hq, hs, bits_rest, bits_one, bits_two, named_flr]
  rfl

/-- The third step's coefficients. -/
theorem k61 (r : Fin 4096) (t : Fin 3) : k0_pay61 x0 x1 x2 x3 x4 x5 (ix2 r t)
    = coefs (fun t => unit (row x5 t)) (carried2 x0 x1 x2 x3 x4 x5 r) (scale (carried2 x0 x1 x2 x3 x4 x5 r)) t :=
  k27 _ _ _ _ _ _ _ _ r t _ _ _ (k41 x0 x1 x2 x3 x4 x5 t) (k42 x0 x1 x2 x3 x4 x5 t) (k59 x0 x1 x2 x3 x4 x5 r) (k25 x0 x1 x2 x3 x4 x5 r)
    (k60 x0 x1 x2 x3 x4 x5 r)

/-- The first weights, as loaded. -/
theorem k62 (j k : Fin 256) : k0_pay62 x0 x1 x2 x3 x4 x5 (ix2 j k) = row x1 j k := by
  rw [k0_pay62, View.ld_unit_zero corner]
  pointwise [k0_pay28]

/-- The product's starting value. -/
theorem k57 (r : Fin 4096) (c : Fin 256) : k0_pay57 x0 x1 x2 x3 x4 x5 (ix2 r c) = 0 := by
  pointwise [k0_pay57]

/-- The third step, from the second's row and its factor. -/
theorem k63 (r : Fin 4096) (c : Fin 256) : k0_pay63 x0 x1 x2 x3 x4 x5 (ix2 r c) = carried3 x0 x1 x2 x3 x4 x5 r c := by
  rw [k0_pay63, View.ld_unit_zero corner]
  pointwise [k0_pay29, k39, k40, k40_last, k58, k59, k60, k61, k62, k57, bits_one, Fin.sum_univ_one, carried3, step, delta]
  rfl

/-! ## The fourth step -/

/-- The third carried row, in the narrower format: the same row. -/
theorem k64 (r : Fin 4096) (c : Fin 256) : k0_pay64 x0 x1 x2 x3 x4 x5 (ix2 r c) = carried3 x0 x1 x2 x3 x4 x5 r c := k63 x0 x1 x2 x3 x4 x5 r c

/-- The third carried row's squared norm. -/
theorem k31 (r : Fin 4096) : k0_pay31 (k0_pay39 x0 x1 x2 x3 x4 x5) (k0_pay40 x0 x1 x2 x3 x4 x5) (k0_pay58 x0 x1 x2 x3 x4 x5) (k0_pay59 x0 x1 x2 x3 x4 x5) (k0_pay60 x0 x1 x2 x3 x4 x5) (k0_pay61 x0 x1 x2 x3 x4 x5) (k0_pay62 x0 x1 x2 x3 x4 x5) (k0_pay57 x0 x1 x2 x3 x4 x5) (View.ld x3 r0_3) (ix2 r 0)
    = dot (carried3 x0 x1 x2 x3 x4 x5 r) (carried3 x0 x1 x2 x3 x4 x5 r) := by
  have h : k0_pay31 (k0_pay39 x0 x1 x2 x3 x4 x5) (k0_pay40 x0 x1 x2 x3 x4 x5) (k0_pay58 x0 x1 x2 x3 x4 x5) (k0_pay59 x0 x1 x2 x3 x4 x5) (k0_pay60 x0 x1 x2 x3 x4 x5) (k0_pay61 x0 x1 x2 x3 x4 x5) (k0_pay62 x0 x1 x2 x3 x4 x5) (k0_pay57 x0 x1 x2 x3 x4 x5) (View.ld x3 r0_3)
      = k0_pay7 (k0_pay63 x0 x1 x2 x3 x4 x5) := rfl
  rw [h]
  pointwise [k0_pay7, k63]
  rfl

/-- The third carried row's factor. -/
theorem k65 (r : Fin 4096) : k0_pay65 x0 x1 x2 x3 x4 x5 (ix2 r 0) = scale (carried3 x0 x1 x2 x3 x4 x5 r) := by
  pointwise [k0_pay65, k0_pay32, k31, bits_ten, bits_slack, bits_one, scale_lt]
  rfl

/-- The squared norm of the third row once its factor is applied. -/
theorem k66 (r : Fin 4096) : k0_pay66 x0 x1 x2 x3 x4 x5 (ix2 r 0)
    = dot (carried3 x0 x1 x2 x3 x4 x5 r) (carried3 x0 x1 x2 x3 x4 x5 r) * scale (carried3 x0 x1 x2 x3 x4 x5 r) * scale (carried3 x0 x1 x2 x3 x4 x5 r) := by
  have h := k65 x0 x1 x2 x3 x4 x5 r
  rw [k0_pay65] at h
  pointwise [k0_pay66, k0_pay33, k31, h]

/-- The fourth step's products with the directions, the factor applied. -/
theorem k67 (r : Fin 4096) (t : Fin 3) : k0_pay67 x0 x1 x2 x3 x4 x5 (ix2 r t)
    = dot (carried3 x0 x1 x2 x3 x4 x5 r) (unit (row x5 t)) * scale (carried3 x0 x1 x2 x3 x4 x5 r) := by
  have h := k65 x0 x1 x2 x3 x4 x5 r
  have h' := k64 x0 x1 x2 x3 x4 x5 r
  rw [k0_pay65] at h
  rw [k0_pay64] at h'
  pointwise [k0_pay67, k0_pay34, k42, h, h']
  rfl

/-- The fourth step's cosines. -/
theorem k68 (r : Fin 4096) (t : Fin 3) : k0_pay68 x0 x1 x2 x3 x4 x5 (ix2 r t)
    = dot (carried3 x0 x1 x2 x3 x4 x5 r) (unit (row x5 t)) * scale (carried3 x0 x1 x2 x3 x4 x5 r)
      * Ideal.rsqrt (max (dot (carried3 x0 x1 x2 x3 x4 x5 r) (carried3 x0 x1 x2 x3 x4 x5 r) * scale (carried3 x0 x1 x2 x3 x4 x5 r) * scale (carried3 x0 x1 x2 x3 x4 x5 r)) ((flr * flr : ℝ) : EReal)) := by
  have h := k66 x0 x1 x2 x3 x4 x5 r
  have h' := k67 x0 x1 x2 x3 x4 x5 r t
  rw [k0_pay66] at h
  rw [k0_pay67] at h'
  pointwise [k0_pay68, k0_pay35, h, h', named_flr]

/-- The fourth step's payload over the values before it. -/
abbrev last (x0 : Vec Ideal S4096x256 .f32) (x1 : Vec Ideal S256x256 .bf16) (x2 : Vec Ideal S1x256 .f32) (x3 : Vec Ideal S256x256 .bf16) (x4 : Vec Ideal S1x256 .f32) (x5 : Vec Ideal S3x256 .f32) : FVec Ideal S4096x256 .f32 :=
  k0_pay36 (k0_pay39 x0 x1 x2 x3 x4 x5) (k0_pay40 x0 x1 x2 x3 x4 x5) (k0_pay41 x0 x1 x2 x3 x4 x5) (k0_pay63 x0 x1 x2 x3 x4 x5) (k0_pay64 x0 x1 x2 x3 x4 x5) (k0_pay65 x0 x1 x2 x3 x4 x5) (k0_pay66 x0 x1 x2 x3 x4 x5) (k0_pay67 x0 x1 x2 x3 x4 x5) (k0_pay68 x0 x1 x2 x3 x4 x5)
    (Scalar.ofBits .f32 0x3EC28F5C#32) (View.ld x1 r0_3) (View.ld x3 r0_3)

/-- The fourth step, from the third's row and its factor. -/
theorem k36 (r : Fin 4096) (c : Fin 256) : last x0 x1 x2 x3 x4 x5 (ix2 r c) = carried4 x0 x1 x2 x3 x4 x5 r c := by
  rw [last, View.ld_unit_zero corner, View.ld_unit_zero corner]
  pointwise [k0_pay36, k39, k40, k40_last, k41, k63, k64, k65, k66, k67, k68, bits_rest, bits_one, bits_two, named_flr,
    Fin.sum_univ_one, carried4, step, coefs, coef, delta]
  rfl

/-- THE BLOCK THE KERNEL WRITES, row by row: the last carried row times its factor. -/
theorem k_out (r : Fin 4096) (c : Fin 256) : out0_6 x0 x1 x2 x3 x4 x5 (ix2 r c)
    = carried4 x0 x1 x2 x3 x4 x5 r c * scale (carried4 x0 x1 x2 x3 x4 x5 r) := by
  rw [out0_6, View.canon_unit_zero corner]
  have h : k0_pay1 (last x0 x1 x2 x3 x4 x5) (sqrt (k0_pay7 (F := Ideal) (last x0 x1 x2 x3 x4 x5)))
      (cmpf .ogt (sqrt (k0_pay7 (F := Ideal) (last x0 x1 x2 x3 x4 x5))) (broadcast S4096x1 (Scalar.ofBits .f32 0x41200000#32)))
      (Scalar.ofBits .f32 0x322BCC77#32) (ix2 r c) = carried4 x0 x1 x2 x3 x4 x5 r c * scale (carried4 x0 x1 x2 x3 x4 x5 r) := by
    pointwise [k0_pay1, k0_pay7, k36, bits_ten, bits_slack, bits_one, scale_lt]
    rfl
  exact h

end Cert.Collapse

end
-- ==== Proof.Windows.lean ====
/- What each grid point of the kernel reads: its rows of the initial state, and the whole of every other argument. -/
module

public import proofs.«01_k».proof.Proof.KernelRow
public import proofs.«01_k».proof.Proof.Gen.KernelIdeal.Value
public import Idealize.ShloMosaic.Lib.Pointwise
public import Idealize.ShloMosaic.Lib.Pipeline.ValueKit
public import Idealize.ShloMosaic.Lib.StableHlo.ReadAt

@[expose] public section

noncomputable section

namespace Cert.Collapse

open Cert.KernelIdeal Cert.KernelIdeal.Gen Idealize.ShloMosaic Idealize.ShloMosaic.TcCoe Idealize.SL.Sem

variable (m : (ℓ : Loc nD τ sig) → Buf (Elt Ideal) ℓ) (c : Dev nD)

/-- The state's window moves down one block of rows at each point. -/
theorem at0 : ∀ t : Fin cfg0.N, win0_0.index t = ![t.val, 0] := (by decide +kernel : ∀ t : Fin grid0.N, _)
/-- The first weights' window stays. -/
theorem at1 : ∀ t : Fin cfg0.N, win0_1.index t = ![0, 0] := (by decide +kernel : ∀ t : Fin grid0.N, _)
/-- The first bias' window stays. -/
theorem at2 : ∀ t : Fin cfg0.N, win0_2.index t = ![0, 0] := (by decide +kernel : ∀ t : Fin grid0.N, _)
/-- The second weights' window stays. -/
theorem at3 : ∀ t : Fin cfg0.N, win0_3.index t = ![0, 0] := (by decide +kernel : ∀ t : Fin grid0.N, _)
/-- The second bias' window stays. -/
theorem at4 : ∀ t : Fin cfg0.N, win0_4.index t = ![0, 0] := (by decide +kernel : ∀ t : Fin grid0.N, _)
/-- The anchors' window stays. -/
theorem at5 : ∀ t : Fin cfg0.N, win0_5.index t = ![0, 0] := (by decide +kernel : ∀ t : Fin grid0.N, _)
/-- The result's window moves as the state's does. -/
theorem at6 : ∀ t : Fin cfg0.N, win0_6.index t = ![t.val, 0] := (by decide +kernel : ∀ t : Fin grid0.N, _)

/-- The first weights reach the kernel as they are. -/
theorem host1 (i : S256x256.Idx) : V m c main_call0_v4 i = m (c, main_arg1) i := by
  unfold V
  after_reads_at

/-- The first bias reaches the kernel as one row. -/
theorem host2 (k : Fin 256) : V m c main_call0_v5 (ix2 0 k) = m (c, main_arg2) (ix1 k) := by
  unfold V
  after_reads_at

/-- The second weights reach the kernel as they are. -/
theorem host3 (i : S256x256.Idx) : V m c main_call0_v6 i = m (c, main_arg3) i := by
  unfold V
  after_reads_at

/-- The second bias reaches the kernel as one row. -/
theorem host4 (k : Fin 256) : V m c main_call0_v7 (ix2 0 k) = m (c, main_arg4) (ix1 k) := by
  unfold V
  after_reads_at

/-- A vector laid as one row, read at a column. -/
theorem lay_row (a : Vec Ideal S256 .f32) (k : Fin 256) : broadcastInDim S1x256 ![1] bcast_S256_S1x256_1 a (ix2 0 k) = a (ix1 k) := by
  pointwise

/-- The first anchor is the stack's first row. -/
theorem host5_0 (k : Fin 256) : V m c main_call0_v3 (ix2 0 k) = m (c, main_arg5) (ix1 k) := by
  unfold V
  after_reads_at
  after_reads_at
  exact lay_row _ k

/-- The second anchor is the stack's second row. -/
theorem host5_1 (k : Fin 256) : V m c main_call0_v3 (ix2 1 k) = m (c, main_arg6) (ix1 k) := by
  unfold V
  after_reads_at
  after_reads_at
  exact lay_row _ k

/-- The third anchor is the stack's third row. -/
theorem host5_2 (k : Fin 256) : V m c main_call0_v3 (ix2 2 k) = m (c, main_arg7) (ix1 k) := by
  unfold V
  after_reads_at
  after_reads_at
  exact lay_row _ k

/-- The row of the whole state that row `r` of point `t`'s block is. -/
def rowAt (t : Fin cfg0.N) (r : Fin 4096) : Fin 32768 := ⟨4096 * t.val + r.val, by
  have ht : t.val < 8 := t.isLt
  omega⟩

/-- A point's block of the state. -/
theorem block0 (t : Fin cfg0.N) (r : Fin 4096) : row (iblk m c 0 t) r = row (m (c, main_arg0)) (rowAt t r) := by
  funext k
  change iblk m c 0 t (ix2 r k) = _
  blk_simp [iblk, at0, V_main_arg0]
  refine congrArg _ ?_
  blk_ext [at0, rowAt]

/-- The first weights' block. -/
theorem block1 (t : Fin cfg0.N) : row (iblk m c 1 t) = row (m (c, main_arg1)) := by
  funext j k
  refine Eq.trans ?_ (host1 m c (ix2 j k))
  change iblk m c 1 t (ix2 j k) = _
  blk_simp [iblk, at1]
  refine congrArg _ ?_
  blk_ext [at1]

/-- The first bias' block. -/
theorem block2 (t : Fin cfg0.N) : row (iblk m c 2 t) 0 = vec (m (c, main_arg2)) := by
  funext k
  refine Eq.trans ?_ (host2 m c k)
  change iblk m c 2 t (ix2 0 k) = _
  blk_simp [iblk, at2]
  refine congrArg _ ?_
  blk_ext [at2]

/-- The second weights' block. -/
theorem block3 (t : Fin cfg0.N) : row (iblk m c 3 t) = row (m (c, main_arg3)) := by
  funext j k
  refine Eq.trans ?_ (host3 m c (ix2 j k))
  change iblk m c 3 t (ix2 j k) = _
  blk_simp [iblk, at3]
  refine congrArg _ ?_
  blk_ext [at3]

/-- The second bias' block. -/
theorem block4 (t : Fin cfg0.N) : row (iblk m c 4 t) 0 = vec (m (c, main_arg4)) := by
  funext k
  refine Eq.trans ?_ (host4 m c k)
  change iblk m c 4 t (ix2 0 k) = _
  blk_simp [iblk, at4]
  refine congrArg _ ?_
  blk_ext [at4]

/-- The first row of the anchors' block. -/
theorem block5_0 (t : Fin cfg0.N) : row (iblk m c 5 t) 0 = vec (m (c, main_arg5)) := by
  funext k
  refine Eq.trans ?_ (host5_0 m c k)
  change iblk m c 5 t (ix2 0 k) = _
  blk_simp [iblk, at5]
  refine congrArg _ ?_
  blk_ext [at5]

/-- The second row of the anchors' block. -/
theorem block5_1 (t : Fin cfg0.N) : row (iblk m c 5 t) 1 = vec (m (c, main_arg6)) := by
  funext k
  refine Eq.trans ?_ (host5_1 m c k)
  change iblk m c 5 t (ix2 1 k) = _
  blk_simp [iblk, at5]
  refine congrArg _ ?_
  blk_ext [at5]

/-- The third row of the anchors' block. -/
theorem block5_2 (t : Fin cfg0.N) : row (iblk m c 5 t) 2 = vec (m (c, main_arg7)) := by
  funext k
  refine Eq.trans ?_ (host5_2 m c k)
  change iblk m c 5 t (ix2 2 k) = _
  blk_simp [iblk, at5]
  refine congrArg _ ?_
  blk_ext [at5]

end Cert.Collapse

end
-- ==== Proof.Rows.lean ====
/- The kernel's result array is the reference's: every row of every point's block is the row's four layers. -/
module

public import proofs.«01_k».proof.Proof.Chain
public import proofs.«01_k».proof.Proof.Precondition
public import proofs.«01_k».proof.Proof.Windows

@[expose] public section

noncomputable section

namespace Cert.Collapse

open Cert.KernelIdeal Cert.KernelIdeal.Gen Idealize.ShloMosaic Idealize.ShloMosaic.TcCoe Idealize.SL.Sem

/-- Four of the kernel's steps are four of the reference's layers, at three admitted anchors. -/
theorem steps_are_layers (x0 : Vec Ideal S4096x256 .f32) (x1 : Vec Ideal S256x256 .bf16) (x2 : Vec Ideal S1x256 .f32)
    (x3 : Vec Ideal S256x256 .bf16) (x4 : Vec Ideal S1x256 .f32) (x5 : Vec Ideal S3x256 .f32) (r : Fin 4096)
    (ha : ∀ t, Anchored (row x5 t)) :
    let L := fun h => clamp (refPre (row x1) (row x2 0) (row x3) (row x4 0) (unit (row x5 0)) (unit (row x5 1)) (unit (row x5 2)) h)
    (fun k => carried4 x0 x1 x2 x3 x4 x5 r k * scale (carried4 x0 x1 x2 x3 x4 x5 r)) = L (L (L (L (row x0 r)))) := by
  intro L
  have hu := fun t => unit_anchor (row x5 t) (ha t).1 (ha t).2
  rw [← clamp_eq, carried4, kstep, step_of_clamp _ _ _ _ _ hu, carried3, kstep, step_of_clamp _ _ _ _ _ hu, carried2, kstep,
    step_of_clamp _ _ _ _ _ hu, carried1, kstep, clamp_step_first _ _ _ _ _ hu]

variable (m : (ℓ : Loc nD τ sig) → Buf (Elt Ideal) ℓ) (c : Dev nD)

/-- The reference's result over the kernel's arguments. -/
abbrev want : S32768x256.Idx → EReal :=
  Cert.ReferenceIdeal.Read.val_main_v362 (F := Ideal) (m (c, main_arg0)) (m (c, main_arg1)) (m (c, main_arg2)) (m (c, main_arg3))
    (m (c, main_arg4)) (m (c, main_arg5)) (m (c, main_arg6)) (m (c, main_arg7))

/-- What a point writes at a row and a column of its block. -/
theorem block_value (h5 : Anchored (vec (m (c, main_arg5)))) (h6 : Anchored (vec (m (c, main_arg6)))) (h7 : Anchored (vec (m (c, main_arg7))))
    (t : Fin cfg0.N) (r : Fin 4096) (k : Fin 256) :
    out0_6 (iblk m c 0 t) (iblk m c 1 t) (iblk m c 2 t) (iblk m c 3 t) (iblk m c 4 t) (iblk m c 5 t) (ix2 r k)
      = want m c (ix2 (rowAt t r) k) := by
  have ha : ∀ j, Anchored (row (iblk m c 5 t) j) := fun j => by
    fin_cases j
    · exact (congrArg Anchored (block5_0 m c t)).mpr h5
    · exact (congrArg Anchored (block5_1 m c t)).mpr h6
    · exact (congrArg Anchored (block5_2 m c t)).mpr h7
  have e := steps_are_layers (iblk m c 0 t) (iblk m c 1 t) (iblk m c 2 t) (iblk m c 3 t) (iblk m c 4 t) (iblk m c 5 t) r ha
  have w := ref_result (m (c, main_arg0)) (m (c, main_arg1)) (m (c, main_arg2)) (m (c, main_arg3))
    (m (c, main_arg4)) (m (c, main_arg5)) (m (c, main_arg6)) (m (c, main_arg7)) (rowAt t r)
  rw [block0, block1, block2, block3, block4, block5_0, block5_1, block5_2] at e
  rw [k_out]
  exact (congrFun e k).trans (congrFun w k).symm

/-- THE KERNEL'S RESULT ARRAY is the reference's result over its arguments. -/
theorem result_array (h5 : Anchored (vec (m (c, main_arg5)))) (h6 : Anchored (vec (m (c, main_arg6)))) (h7 : Anchored (vec (m (c, main_arg7)))) :
    (dats m 0 c).arrAt 6 cfg0.N = want m c := by
  refine (dats m 0 c).arrAt_eq_of_covers 6 _ (by decide +kernel) fun t _ y => ?_
  blk_simp
  rw [after0_6]
  obtain ⟨r, k, rfl⟩ : ∃ (r : Fin 4096) (k : Fin 256), y = ix2 r k := ⟨y 0, y 1, (ix2_eta y).symm⟩
  refine (block_value m c h5 h6 h7 t r k).trans (congrArg _ ?_)
  blk_ext [at6, rowAt]

end Cert.Collapse

end
-- ==== Proof.Algebraic.lean ====
/- The value claim: under the precondition the kernel and the reference end with equal results. -/
module

public import proofs.«01_k».proof.Defs
public import proofs.«01_k».proof.Proof.Rows
public import proofs.«01_k».proof.Proof.Gen.ReferenceIdeal.Run

@[expose] public section

noncomputable section

namespace Cert.Collapse

open Idealize.ShloMosaic Idealize.ShloMosaic.TcCoe Idealize.SL.Sem

/-- The kernel ends with the reference's result over its arguments, and with its arguments as they were. -/
theorem kernel_run (m : (ℓ : Loc Cert.KernelIdeal.nD Cert.KernelIdeal.τ Cert.KernelIdeal.sig) → Buf (Elt Ideal) ℓ)
    (g : Dev Cert.KernelIdeal.nD → PrngReg) (hpre : Cert.Pre_KernelIdeal_anchored m) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD, r.2.mem (c, Cert.KernelIdeal.main_v0) = want m c
        ∧ r.2.mem (c, Cert.KernelIdeal.main_arg0) = m (c, Cert.KernelIdeal.main_arg0)
        ∧ r.2.mem (c, Cert.KernelIdeal.main_arg1) = m (c, Cert.KernelIdeal.main_arg1)
        ∧ r.2.mem (c, Cert.KernelIdeal.main_arg2) = m (c, Cert.KernelIdeal.main_arg2)
        ∧ r.2.mem (c, Cert.KernelIdeal.main_arg3) = m (c, Cert.KernelIdeal.main_arg3)
        ∧ r.2.mem (c, Cert.KernelIdeal.main_arg4) = m (c, Cert.KernelIdeal.main_arg4)
        ∧ r.2.mem (c, Cert.KernelIdeal.main_arg5) = m (c, Cert.KernelIdeal.main_arg5)
        ∧ r.2.mem (c, Cert.KernelIdeal.main_arg6) = m (c, Cert.KernelIdeal.main_arg6)
        ∧ r.2.mem (c, Cert.KernelIdeal.main_arg7) = m (c, Cert.KernelIdeal.main_arg7)) := by
  refine (θ_run _ _ _).mono (fun r h c => ⟨(h c).1.trans ?_, (h c).2⟩) (Cert.KernelIdeal.Value.run_blocks (F := Ideal) m g)
  obtain ⟨h5, h6, h7⟩ := pre_read _ _ _ _ _ _ _ _ (hpre c)
  exact result_array m c h5 h6 h7

/-- THE VALUE CLAIM. -/
theorem value : Cert.algebraic_KernelIdeal_ReferenceIdeal_pre_anchored := by
  intro m g m' g' hpre hagree
  refine ⟨fun c => want m c, kernel_run m g hpre, ?_⟩
  refine (θ_run _ _ _).mono (fun r h c => ⟨(h c).1.trans ?_, (h c).2⟩) (Cert.ReferenceIdeal.Value.run (F := Ideal) m' g')
  obtain ⟨e0, e1, e2, e3, e4, e5, e6, e7⟩ := hagree c
  refine (Cert.ReferenceIdeal.Read.val_main_v362_eq (StableHlo.launchContents m' c)).trans ?_
  change Cert.ReferenceIdeal.Read.val_main_v362 (F := Ideal) (m' (c, Cert.ReferenceIdeal.main_arg0)) (m' (c, Cert.ReferenceIdeal.main_arg1))
    (m' (c, Cert.ReferenceIdeal.main_arg2)) (m' (c, Cert.ReferenceIdeal.main_arg3)) (m' (c, Cert.ReferenceIdeal.main_arg4))
    (m' (c, Cert.ReferenceIdeal.main_arg5)) (m' (c, Cert.ReferenceIdeal.main_arg6)) (m' (c, Cert.ReferenceIdeal.main_arg7)) = want m c
  exact congr (congr (congr (congr (congr (congr (congr (congrArg _ e0) e1) e2) e3) e4) e5) e6) e7

end Cert.Collapse

end
-- ==== Proof.lean ====
/- The certificate: the frames of the kernel, of its idealization and of the reference, the named literal, and the value
   claim (Proof/Algebraic.lean: the kernel's four carried steps of a row are the reference's four layers). -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Lib.Quiescent
public import Idealize.ShloMosaic.Adequacy
public import Idealize.ShloMosaic.Init

@[expose] public section

noncomputable section

namespace Cert.Proof

open Idealize.ShloMosaic Idealize.SL.Sem

/-- The reference has no semaphore, and its run leaves its arguments. -/
theorem reference_frame : Cert.quiescent_ReferenceIdeal := fun m g _ =>
  (θ_run _ _ _).mono (fun r h => ⟨fun c => (h c).2, sem_eq_zero_of_no_sems (by decide) r.2⟩)
    (Cert.ReferenceIdeal.Value.run (F := Ideal) m g)

/-- The literal of each clamp's floor is the rounding of the number it is named for. -/
theorem floor_named : Cert.preserves_Kernel_KernelIdeal :=
  IdealRules.named_const.statement _ _ _ _ _ rfl

/-- THE CERTIFICATE. -/
theorem claim : Cert.Claim :=
  ⟨Cert.Kernel.Gen.facts, Cert.KernelIdeal.Gen.facts, Cert.ReferenceIdeal.Gen.facts, Cert.Collapse.pre_facts,
    fun m g _ => Cert.Kernel.Gen.frame m g,
    fun m g _ => Cert.KernelIdeal.Gen.frame m g,
    fun m g _ => Cert.KernelIdeal.Gen.frame m g,
    reference_frame,
    fun m g _ => reference_frame m g trivial,
    floor_named,
    Cert.Collapse.value⟩

end Cert.Proof

end
